-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 512]⟩ ⟨2, ![2048, 512]⟩ (Layout.meshBlock [2, 2, 4] ![[2], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512 : Shape := ⟨2, ![2, 512]⟩
abbrev S3x2x512 : Shape := ⟨3, ![3, 2, 512]⟩
abbrev S3 : Shape := ⟨1, ![3]⟩
abbrev S_ : Shape := ⟨0, ![]⟩
abbrev S512x1 : Shape := ⟨2, ![512, 1]⟩
abbrev S1x512 : Shape := ⟨2, ![1, 512]⟩
abbrev S1 : Shape := ⟨1, ![1]⟩
abbrev S1x2x512 : Shape := ⟨3, ![1, 2, 512]⟩

abbrev nBuf : Space → Nat
  | .hbm => 4
  | .vmem => 4
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S512, .bf16⟩
  | .hbm, ⟨3, _⟩ => ⟨S2x512, .f32⟩
  | .local _ .vmem, ⟨0, _⟩ => ⟨S512x512, .bf16⟩
  | .local _ .vmem, ⟨1, _⟩ => ⟨S512x512, .bf16⟩
  | .local _ .vmem, ⟨2, _⟩ => ⟨S2x512, .f32⟩
  | .local _ .vmem, ⟨3, _⟩ => ⟨S3x2x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_dev4 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v107 : BitVec 32 := Scalar.muli v2 c8_i32_59
  let v108 : BitVec 32 := Scalar.addi c0_i32_60 v107
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_61 : BitVec 32 := 4#32
  let v109 : BitVec 32 := Scalar.muli v5 c4_i32_61
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v96 : BitVec 32 := Scalar.addi v8 c1_i32_49
  let c4_i32_50 : BitVec 32 := 4#32
  let c0_i32_51 : BitVec 32 := 0#32
  let v97 : BitVec 1 := Scalar.cmpi .eq c4_i32_50 c0_i32_51
  let c1_i32_52 : BitVec 32 := 1#32
  let v98 : BitVec 32 := Scalar.select v97 c1_i32_52 c4_i32_50
  let v99 : BitVec 32 := Scalar.remsi v96 v98
  let c0_i32_54 : BitVec 32 := 0#32
  let v101 : BitVec 1 := Scalar.cmpi .slt v99 c0_i32_54
  let c0_i32_55 : BitVec 32 := 0#32
  let v102 : BitVec 1 := Scalar.cmpi .slt v98 c0_i32_55
  let v103 : BitVec 1 := Scalar.xori v101 v102
  let c0_i32_53 : BitVec 32 := 0#32
  let v100 : BitVec 1 := Scalar.cmpi .ne v99 c0_i32_53
  let v104 : BitVec 1 := Scalar.andi v103 v100
  let v105 : BitVec 32 := Scalar.addi v99 v98
  let v106 : BitVec 32 := Scalar.select v104 v105 v99
  let c1_i32_62 : BitVec 32 := 1#32
  let v111 : BitVec 32 := Scalar.muli v106 c1_i32_62
  let v112 : BitVec 32 := Scalar.addi v110 v111
  v112.toNat
def k0_dev5 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_75 : BitVec 32 := 8#32
  let v130 : BitVec 32 := Scalar.muli v2 c8_i32_75
  let v131 : BitVec 32 := Scalar.addi c0_i32_76 v130
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_77 : BitVec 32 := 4#32
  let v132 : BitVec 32 := Scalar.muli v5 c4_i32_77
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_65 : BitVec 32 := 2#32
  let v119 : BitVec 32 := Scalar.addi v8 c2_i32_65
  let c4_i32_66 : BitVec 32 := 4#32
  let c0_i32_67 : BitVec 32 := 0#32
  let v120 : BitVec 1 := Scalar.cmpi .eq c4_i32_66 c0_i32_67
  let c1_i32_68 : BitVec 32 := 1#32
  let v121 : BitVec 32 := Scalar.select v120 c1_i32_68 c4_i32_66
  let v122 : BitVec 32 := Scalar.remsi v119 v121
  let c0_i32_70 : BitVec 32 := 0#32
  let v124 : BitVec 1 := Scalar.cmpi .slt v122 c0_i32_70
  let c0_i32_71 : BitVec 32 := 0#32
  let v125 : BitVec 1 := Scalar.cmpi .slt v121 c0_i32_71
  let v126 : BitVec 1 := Scalar.xori v124 v125
  let c0_i32_69 : BitVec 32 := 0#32
  let v123 : BitVec 1 := Scalar.cmpi .ne v122 c0_i32_69
  let v127 : BitVec 1 := Scalar.andi v126 v123
  let v128 : BitVec 32 := Scalar.addi v122 v121
  let v129 : BitVec 32 := Scalar.select v127 v128 v122
  let c1_i32_78 : BitVec 32 := 1#32
  let v134 : BitVec 32 := Scalar.muli v129 c1_i32_78
  let v135 : BitVec 32 := Scalar.addi v133 v134
  v135.toNat
def k0_dev6 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v153 : BitVec 32 := Scalar.muli v2 c8_i32_91
  let v154 : BitVec 32 := Scalar.addi c0_i32_92 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v155 : BitVec 32 := Scalar.muli v5 c4_i32_93
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_81 : BitVec 32 := 3#32
  let v142 : BitVec 32 := Scalar.addi v8 c3_i32_81
  let c4_i32_82 : BitVec 32 := 4#32
  let c0_i32_83 : BitVec 32 := 0#32
  let v143 : BitVec 1 := Scalar.cmpi .eq c4_i32_82 c0_i32_83
  let c1_i32_84 : BitVec 32 := 1#32
  let v144 : BitVec 32 := Scalar.select v143 c1_i32_84 c4_i32_82
  let v145 : BitVec 32 := Scalar.remsi v142 v144
  let c0_i32_86 : BitVec 32 := 0#32
  let v147 : BitVec 1 := Scalar.cmpi .slt v145 c0_i32_86
  let c0_i32_87 : BitVec 32 := 0#32
  let v148 : BitVec 1 := Scalar.cmpi .slt v144 c0_i32_87
  let v149 : BitVec 1 := Scalar.xori v147 v148
  let c0_i32_85 : BitVec 32 := 0#32
  let v146 : BitVec 1 := Scalar.cmpi .ne v145 c0_i32_85
  let v150 : BitVec 1 := Scalar.andi v149 v146
  let v151 : BitVec 32 := Scalar.addi v145 v144
  let v152 : BitVec 32 := Scalar.select v150 v151 v145
  let c1_i32_94 : BitVec 32 := 1#32
  let v157 : BitVec 32 := Scalar.muli v152 c1_i32_94
  let v158 : BitVec 32 := Scalar.addi v156 v157
  v158.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S2x512 : Shape := ⟨2, ![2, 512]⟩

abbrev nBuf : Space → Nat
  | .hbm => 54
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512, .bf16⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .i32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S1x512, .f32⟩
  | .hbm, ⟨53, _⟩ => ⟨S2x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩

abbrev nD : Nat := 1
abbrev τ : Topo := Topo.v7x

variable {F : FTy → Type} [FloatOps F]
-- ==== Proof.Peers.lean ====
/-
The four devices of one z-line, and who addresses whom.

Device `c` sits at z-coordinate `c % 4` of the line of the devices with the same quotient `c / 4`. For each of the
three distances `j + 1` (`j : Fin 3`) it has one peer, the device that far along its line. The peer at the
complementary distance undoes it: from `peer j c`, the peer number `j.rev` is `c` again.
-/
module

public import proofs.«01_k».proof.Proof.Gen.KernelIdeal
public import proofs.«01_k».proof.Proof.Gen.KernelIdeal.Skeleton

@[expose] public section

noncomputable section

namespace Cert.Lnbwd

open Cert.KernelIdeal Cert.KernelIdeal.Gen
open Idealize.ShloMosaic

/-- A device number computed within a line of four is a device. -/
theorem peer_bound (j : Fin 3) (c : Dev nD) : c.val / 4 * 4 + (c.val % 4 + (j.val + 1)) % 4 < nD := by
  revert j c; decide

/-- The device `j + 1` places further along `c`'s z-line, cyclically. -/
def peer (j : Fin 3) (c : Dev nD) : Dev nD := ⟨c.val / 4 * 4 + (c.val % 4 + (j.val + 1)) % 4, peer_bound j c⟩

/-- Going `j + 1` places along the line and then the complementary `4 - (j + 1)` places leads back. -/
theorem peer_rev_peer (j : Fin 3) (c : Dev nD) : peer j.rev (peer j c) = c := by revert j c; decide

/-- The same, the complementary distance first. -/
theorem peer_peer_rev (j : Fin 3) (c : Dev nD) : peer j (peer j.rev c) = c := by revert j c; decide

/-- Being the device at distance `j + 1` of `d` is having `d` at the complementary distance. -/
theorem peer_eq_iff (j : Fin 3) (c d : Dev nD) : Iff (peer j d = c) (d = peer j.rev c) :=
  ⟨fun h => by rw [← h, peer_rev_peer], fun h => by rw [h, peer_peer_rev]⟩

/-- Distance `j + 1` along every line, as a permutation of the devices. -/
def along (j : Fin 3) : Dev nD ≃ Dev nD := ⟨peer j, peer j.rev, peer_rev_peer j, peer_peer_rev j⟩

/-! The printed device numbers: the three signals and the three transfers each go to the peers 0, 1, 2 in turn. -/

/-- The first signal goes to peer 0. -/
theorem signal0 (c : Dev nD) : (⟨k0_dev1 c, k0_dev1_lt c⟩ : Dev nD) = peer 0 c := by revert c; decide +kernel
/-- The second signal goes to peer 1. -/
theorem signal1 (c : Dev nD) : (⟨k0_dev2 c, k0_dev2_lt c⟩ : Dev nD) = peer 1 c := by revert c; decide +kernel
/-- The third signal goes to peer 2. -/
theorem signal2 (c : Dev nD) : (⟨k0_dev3 c, k0_dev3_lt c⟩ : Dev nD) = peer 2 c := by revert c; decide +kernel
/-- The first copy goes to peer 0. -/
theorem transfer0 (c : Dev nD) : (⟨k0_dev4 c, k0_dev4_lt c⟩ : Dev nD) = peer 0 c := by revert c; decide +kernel
/-- The second copy goes to peer 1. -/
theorem transfer1 (c : Dev nD) : (⟨k0_dev5 c, k0_dev5_lt c⟩ : Dev nD) = peer 1 c := by revert c; decide +kernel
/-- The third copy goes to peer 2. -/
theorem transfer2 (c : Dev nD) : (⟨k0_dev6 c, k0_dev6_lt c⟩ : Dev nD) = peer 2 c := by revert c; decide +kernel

end Cert.Lnbwd

end
-- ==== Proof.Rows.lean ====
/-
What one device computes of its own block, and where it is kept.

`part X Y` is the device's contribution: row 0 the column sums of `dy` times the normalized `x`, row 1 the column sums
of `dy`. The kernel stores the two rows one at a time into its result buffer (`rows_written`), copies the buffer into
one slot of each peer's receive buffer, and reads the three slots of its own receive buffer at the end.
-/
module

public import proofs.«01_k».proof.Proof.Peers
public import Idealize.ShloMosaic.Lib.ViewIndex
public import Idealize.ShloMosaic.Lib.VecWindow
public import Idealize.ShloMosaic.Lib.Pipeline.Value

@[expose] public section

noncomputable section

namespace Cert.Lnbwd

open Cert.KernelIdeal Cert.KernelIdeal.Gen
open Idealize.ShloMosaic

variable {F : FTy → Type} [FloatOps F]

/-- Row 0 of a device's contribution: the column sums of `dy` times the normalized `x`. -/
def gammaRow (X Y : Vec F S512x512 .bf16) : FVec F S1x512 .f32 := k0_pay5 (k0_pay2 X) (k0_pay3 Y) (k0_pay4 X)

/-- Row 1 of a device's contribution: the column sums of `dy`. -/
def betaRow (Y : Vec F S512x512 .bf16) : FVec F S1x512 .f32 := k0_pay6 (k0_pay3 Y)

/-- The place of column `k` in a single row. -/
abbrev onRow (k : Fin 512) : S1x512.Idx := Shape.pair ⟨0, by decide⟩ k

/-- The two rows stacked. -/
def part (X Y : Vec F S512x512 .bf16) : FVec F S2x512 .f32 := fun i =>
  if (i 0).val = 0 then gammaRow X Y (onRow (i 1)) else betaRow Y (onRow (i 1))

/-! ## The buffers -/

/-- The staging buffer of `x`. -/
abbrev xM : Memref sig .tc .vmem S512x512 .bf16 := Memref.whole cc0_stg0_0
/-- The staging buffer of `dy`. -/
abbrev yM : Memref sig .tc .vmem S512x512 .bf16 := Memref.whole cc0_stg1_0
/-- The result's staging buffer. -/
abbrev oM : Memref sig .tc .vmem S2x512 .f32 := Memref.whole cc0_stg2_0
/-- The receive buffer of three slots. -/
abbrev rM : Memref sig .tc .vmem S3x2x512 .f32 := Memref.whole cc0_scratch0

/-- The three slots lie within the receive buffer. -/
theorem slot_inb (j : Fin 3) : ∀ a, ![j.val, 0, 0] a + S1x2x512.size a ≤ S3x2x512.size a := by revert j; decide

/-- The rectangle of slot `j` in the receive buffer. -/
abbrev slotRect (j : Fin 3) : Rect S3x2x512 := Rect.unit (s := S3x2x512) ![j.val, 0, 0] S1x2x512.size (slot_inb j)

/-- Slot `j` of the receive buffer, as a 2×512 buffer. -/
abbrev slotM (j : Fin 3) : Memref sig .tc .vmem S2x512 .f32 :=
  (rM.slice (slotRect j) (fun _ => rfl)).squeeze S2x512 squeezes_S1x2x512_S2x512

/-- The elements of slot `j` are those of its rectangle. -/
theorem slot_set (j : Fin 3) : (slotM j).view.set = (rM.access (slotRect j)).set := by
  simp only [Memref.view_squeeze, View.set_reshape, Memref.view_slice]

/-- Different slots share no element. -/
theorem slot_disjoint (j k : Fin 3) (h : j ≠ k) : Disjoint (slotM j).view.set (slotM k).view.set := by
  rw [slot_set, slot_set]
  refine View.disjoint_slice (Finset.disjoint_left.mpr fun y hj hk => h (Fin.ext ?_))
  have e1 := (Rect.mem_set_unit.mp hj) 0
  have e2 := (Rect.mem_set_unit.mp hk) 0
  have a1 : j.val ≤ (y 0).val ∧ (y 0).val < j.val + 1 := e1
  have a2 : k.val ≤ (y 0).val ∧ (y 0).val < k.val + 1 := e2
  omega

/-- Loading slot `j`'s rectangle and dropping its unit axis reads the slot. -/
theorem load_slot (j : Fin 3) (f : (cc0_scratch0 : Ref sig .tc).ty.Contents (Elt F)) :
    shapeCast S2x512 (rM.view.readAt (Elt F) (slotRect j).toLoadRect f) shapeCasts_S1x2x512_S2x512 = (slotM j).view.read (Elt F) f := rfl

/-- The two rows lie within the result buffer. -/
theorem row_inb (j : Fin 2) : ∀ a, ![j.val, 0] a + S1x512.size a ≤ S2x512.size a := by revert j; decide

/-- The rectangle of row `j` of the result buffer. -/
abbrev rowRect (j : Fin 2) : Rect S2x512 := Rect.unit (s := S2x512) ![j.val, 0] S1x512.size (row_inb j)

/-- Storing the two rows leaves the contribution, whatever the buffer held. -/
theorem rows_written (X Y : Vec F S512x512 .bf16) (g : (cc0_stg2_0 : Ref sig .tc).ty.Contents (Elt F)) :
    (oM.access (rowRect 1)).write (Elt F) ((oM.access (rowRect 0)).write (Elt F) g (gammaRow X Y) Finset.univ) (betaRow Y) Finset.univ = part X Y := by
  refine Eq.trans (b := oM.view.read (Elt F) (oM.view.writes (Elt F) g [⟨rowRect 1, betaRow Y⟩, ⟨rowRect 0, gammaRow X Y⟩])) rfl ?_
  funext i
  have h2 : (i 0).val < 2 := (i 0).isLt
  by_cases h : (i 0).val = 0
  · rw [View.read_writes_cons_miss_of_axis (a := 0) (o := 1) (n := 1) (ho := rfl) (hst := rfl) (hn := rfl) (h := .inl (by omega)),
      View.read_writes_cons_hit_of_coords (x := onRow (i 1)), part, if_pos h]
    exact Fin.forall_fin_two.mpr ⟨h, (by omega : (i 1).val = 0 + 1 * (i 1).val)⟩
  · rw [View.read_writes_cons_hit_of_coords (x := onRow (i 1)), part, if_neg h]
    exact Fin.forall_fin_two.mpr ⟨(by omega : (i 0).val = 1), (by omega : (i 1).val = 0 + 1 * (i 1).val)⟩

end Cert.Lnbwd

end
-- ==== Proof.Protocol.lean ====
/-
The exchange of the contributions, as cells with rounds.

Every device has seven cells, each used in one round only. Its barrier cell receives one unit from each of its three
peers; the unit of the peer `d` (distance `j + 1` behind it, the duty `j`) brings that peer's slot, the one `c` will write
into. Its three send cells hand its own result buffer back, a share each, once the corresponding copy has left; its
three receive cells hand it its own slots back, holding the peers' contributions.

Everything here is stated for an arbitrary contribution `P c` of each device.
-/
module

public import proofs.«01_k».proof.Proof.Rows
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Lnbwd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- Beside the staging library's own copy of the resource algebra, one for the exchange, its duties numbered 0, 1, 2. -/
abbrev UX : Type := URounds (GSem nD τ sig) (Fin 3)
/-- The staging library's algebra beside the exchange's. -/
abbrev UU : Type := UR sig nD τ × UX

local notation "𝕄" => MT nD τ sig Unit (Elt F) ℕ UU ℕ

/-- The staging library's algebra in the whole. -/
abbrev EP : Emb (UR sig nD τ) (MT nD τ sig Unit (Elt F) ℕ UU ℕ) := embL
/-- The exchange's algebra in the whole. -/
abbrev ER : Emb UX (MT nD τ sig Unit (Elt F) ℕ UU ℕ) := embR

/-! ## The cells -/

/-- The barrier semaphore. -/
abbrev barS : Sem sig := (SemArray.scalar (sig.barrier 0 rfl) : Sems sig S_).sem

/-- The three semaphores of an array lie within it. -/
theorem sem_inb (j : Fin 3) : ∀ a, ![j.val] a + S1.size a ≤ S3.size a := by revert j; decide

/-- The send semaphore of distance `j + 1`. -/
abbrev sendS (j : Fin 3) : DmaSem sig := ((cc0_scratch1.slice (Rect.unit (s := S3) ![j.val] S1.size (sem_inb j))).squeeze S_ squeezes_S1_S_).sem
/-- The receive semaphore of distance `j + 1`. -/
abbrev recvS (j : Fin 3) : DmaSem sig := ((cc0_scratch2.slice (Rect.unit (s := S3) ![j.val] S1.size (sem_inb j))).squeeze S_ squeezes_S1_S_).sem

/-- Device `c`'s barrier semaphore. -/
abbrev barCell (c : Dev nD) : GSem nD τ sig := ((c : Thread nD τ), .reg barS)
/-- Device `c`'s send semaphore of distance `j + 1`. -/
abbrev sendCell (j : Fin 3) (c : Dev nD) : GSem nD τ sig := ((c : Thread nD τ), .dma (sendS j))
/-- Device `c`'s receive semaphore of distance `j + 1`. -/
abbrev recvCell (j : Fin 3) (c : Dev nD) : GSem nD τ sig := ((c : Thread nD τ), .dma (recvS j))

/-- The send semaphores are numbered 3, 4, 5. -/
theorem sendS_val (j : Fin 3) : (sendS j).val = 3 + j.val := by revert j; decide
/-- The receive semaphores are numbered 6, 7, 8. -/
theorem recvS_val (j : Fin 3) : (recvS j).val = 6 + j.val := by revert j; decide

/-- Which of the three distances a transfer semaphore serves. -/
def line (q : DmaSem sig) : Fin 3 := ⟨q.val % 3, Nat.mod_lt _ (by decide)⟩
/-- Send semaphore `j` serves distance `j + 1`. -/
theorem line_send (j : Fin 3) : line (sendS j) = j := by revert j; decide
/-- Receive semaphore `j` serves distance `j + 1`. -/
theorem line_recv (j : Fin 3) : line (recvS j) = j := by revert j; decide

/-- The credit of one contribution's copy. -/
abbrev N : ℕ := (slotM 0).view.dmaCredit
/-- A copy brings some credit. -/
theorem N_pos : 0 < N := View.dmaCredit_pos _ (by decide)

/-! ## What the cells hand over -/

/-- The share of the result buffer that copy `j` reads: a half, and the halves of the other half. -/
def qs (j : Fin 3) : PosShare TreeShare := match j with
  | 0 => fullShare.left
  | 1 => fullShare.right.left
  | 2 => fullShare.right.right

/-- Slot `j` of device `c`, holding `f`. -/
def slotPts (j : Fin 3) (c : Dev nD) (f : (cc0_scratch0 : Ref sig .tc).ty.Contents (Elt F)) : sProp 𝕄 :=
  (slotM j).view.loc (c : Thread nD τ) ↦[(slotM j).view.set]{fullShare} f

/-- Slot `j` of device `c`, whatever it holds. -/
def slotAny (j : Fin 3) (c : Dev nD) : sProp 𝕄 := iprop(∃ f, slotPts j c f)

/-- Slot `j` of device `c`, reading `X`. -/
def slotHas (j : Fin 3) (c : Dev nD) (X : FVec F S2x512 .f32) : sProp 𝕄 :=
  iprop(∃ f, ⌜(slotM j).view.read (Elt F) f = X⌝ ∗ slotPts j c f)

/-- The share `q` of device `c`'s result buffer, holding `X`. -/
def outPts (q : PosShare TreeShare) (c : Dev nD) (X : FVec F S2x512 .f32) : sProp 𝕄 :=
  oM.view.loc (c : Thread nD τ) ↦[oM.view.set]{q} (X : (cc0_stg2_0 : Ref sig .tc).ty.Contents (Elt F))

/-- A slot with given contents may be handed over through a cell. -/
instance slotPts_storable (j : Fin 3) (c : Dev nD) (f) : BI.Storable (upEmb : UEmb _ 𝕄) (slotPts (F := F) j c f) := by
  unfold slotPts; infer_instance
/-- A slot with any contents may be handed over through a cell. -/
instance slotAny_storable (j : Fin 3) (c : Dev nD) : BI.Storable (upEmb : UEmb _ 𝕄) (slotAny (F := F) j c) := by
  unfold slotAny; infer_instance
/-- A slot that reads `X` may be handed over through a cell. -/
instance slotHas_storable (j : Fin 3) (c : Dev nD) (X) : BI.Storable (upEmb : UEmb _ 𝕄) (slotHas (F := F) j c X) := by
  unfold slotHas; infer_instance
/-- A share of the result buffer may be handed over through a cell. -/
instance outPts_storable (q) (c : Dev nD) (X) : BI.Storable (upEmb : UEmb _ 𝕄) (outPts (F := F) q c X) := by
  unfold outPts; infer_instance

/-! ## The schedule -/

variable (P : Dev nD → FVec F S2x512 .f32)

/-- One round per cell. The barrier cell has three duties of one unit; the transfer cells one duty of a copy's credit. -/
def sched : Rounds.Schedule (GSem nD τ sig) (Fin 3) 𝕄 where
  duties g r := match g.2 with
    | .reg _ => if r = 0 then Finset.univ else ∅
    | .dma _ => if r = 0 then {0} else ∅
  unitless _ := False
  amount g _ _ := match g.2 with
    | .reg _ => 1
    | .dma _ => N
  payload g _ d := match g.2 with
    | .reg _ => slotAny d.rev (peer d.rev g.1.1)
    | .dma q => if q.val < 6 then outPts (qs (line q)) g.1.1 (P g.1.1) else slotHas (line q) g.1.1 (P (peer (line q).rev g.1.1))
  amount_pos g _ _ _ := by
    split
    · exact Nat.one_pos
    · exact N_pos

/-- Whatever a duty hands over may be handed over through a cell. -/
instance sched_storable (g : GSem nD τ sig) (r : ℕ) (d : Fin 3) : BI.Storable (upEmb : UEmb _ 𝕄) ((sched P).payload g r d) := by
  dsimp only [sched]
  split
  · infer_instance
  · split <;> infer_instance

section Sched
variable (c : Dev nD) (j : Fin 3) (d : Fin 3)

/-- A barrier cell has three duties. -/
theorem duties_bar : (sched P).duties (barCell c) 0 = Finset.univ := rfl
/-- A transfer cell has one duty. -/
theorem duties_dma (q : DmaSem sig) : (sched P).duties ((c : Thread nD τ), .dma q) 0 = {0} := rfl
/-- No cell has a duty after its first round. -/
theorem duties_later (g : GSem nD τ sig) (r : ℕ) (hr : 1 ≤ r) : (sched P).duties g r = ∅ := by
  have h : r ≠ 0 := by omega
  dsimp only [sched]
  split <;> exact if_neg h

/-- A barrier cell expects three units. -/
theorem expect_bar : (sched P).expect (barCell c) 0 = 3 := by
  unfold Schedule.expect Schedule.amountOf
  rw [duties_bar, Finset.sum_congr rfl fun d _ => (rfl : (sched P).amount (barCell c) 0 d = 1)]
  rfl
/-- A transfer cell expects one copy's credit. -/
theorem expect_dma (q : DmaSem sig) : (sched P).expect ((c : Thread nD τ), .dma q) 0 = N := by
  unfold Schedule.expect Schedule.amountOf
  rw [duties_dma, Finset.sum_singleton]
  rfl

/-- A unit paid to a barrier cell brings the payer's slot. -/
theorem payload_bar : (sched P).payload (barCell c) 0 d = slotAny d.rev (peer d.rev c) := rfl
/-- A send cell hands back the share of the result buffer that its copy read. -/
theorem payload_send : (sched P).payload (sendCell j c) 0 d = outPts (qs j) c (P c) := by
  dsimp only [sched]; rw [if_pos (by rw [sendS_val]; omega), line_send]
/-- A receive cell hands over its slot, filled with the sender's contribution. -/
theorem payload_recv : (sched P).payload (recvCell j c) 0 d = slotHas j c (P (peer j.rev c)) := by
  dsimp only [sched]; rw [if_neg (by rw [recvS_val]; omega), line_recv]

/-- A family over three, one by one. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The whole round of a barrier cell: every peer's slot that `c` writes into. -/
theorem rest_bar : bigSep ((sched P).duties (barCell c) 0 \ ∅) (fun d => (sched P).payload (barCell c) 0 d)
    = bigSep Finset.univ fun d : Fin 3 => slotAny (F := F) d (peer d c) := by
  rw [Finset.sdiff_empty, duties_bar, bigSep_univ_equiv Fin.revPerm fun d : Fin 3 => slotAny (F := F) d (peer d c)]
  rfl
/-- The whole round of a transfer cell: its one payload. -/
theorem rest_dma (q : DmaSem sig) : bigSep ((sched P).duties ((c : Thread nD τ), .dma q) 0 \ ∅) (fun d => (sched P).payload ((c : Thread nD τ), .dma q) 0 d)
    = (sched P).payload ((c : Thread nD τ), .dma q) 0 0 := by
  rw [Finset.sdiff_empty, duties_dma, bigSep_singleton]

end Sched

/-! ## What a device still owes, and the order of the waits -/

/-- The sum of the tallies `T j` for the distances `j` from `n` on. -/
def from_ (T : Fin 3 → CellTallies nD τ sig Unit) (n : ℕ) : CellTallies nD τ sig Unit :=
  ∑ j ∈ Finset.univ.filter (fun j : Fin 3 => n ≤ j.val), T j

/-- The sum from `j` on is the sum from `j + 1` on and the tally `j`. -/
theorem from_step (T : Fin 3 → CellTallies nD τ sig Unit) (j : Fin 3) : from_ T j.val = from_ T (j.val + 1) + T j := by
  unfold from_
  rw [show Finset.univ.filter (fun i : Fin 3 => j.val ≤ i.val) = insert j (Finset.univ.filter fun i : Fin 3 => j.val + 1 ≤ i.val) from by
    revert j; decide, Finset.sum_insert (by simp), add_comm]

/-- The sum from 3 on is empty. -/
theorem from_end (T : Fin 3 → CellTallies nD τ sig Unit) : from_ T 3 = 0 := by
  unfold from_
  rw [show Finset.univ.filter (fun i : Fin 3 => 3 ≤ i.val) = ∅ from by decide, Finset.sum_empty]

/-- Where the sum is positive, so is one of its tallies. -/
theorem from_pos (T : Fin 3 → CellTallies nD τ sig Unit) (n : ℕ) {g : GSem nD τ sig} {u : Unit} (h : 0 < from_ T n g u) : ∃ j, 0 < T j g u := by
  unfold from_ at h
  rw [Finset.sum_apply, Finsupp.finset_sum_apply] at h
  obtain ⟨j, -, hj⟩ := Finset.exists_ne_zero_of_sum_ne_zero h.ne'
  exact ⟨j, Nat.pos_of_ne_zero hj⟩

/-- One unit to the barrier cell of the peer `j`. -/
abbrev barDue (c : Dev nD) (j : Fin 3) : CellTallies nD τ sig Unit := tallyAt (barCell (peer j c)) () 1
/-- One copy's credit to the receive cell `j` of the peer `j`. -/
abbrev recvDue (c : Dev nD) (j : Fin 3) : CellTallies nD τ sig Unit := tallyAt (recvCell j (peer j c)) () N

/-- What device `c` owes after `b` signals and `a` copies. -/
def owe (a b : ℕ) (c : Dev nD) : CellTallies nD τ sig Unit := from_ (recvDue c) a + from_ (barDue c) b

/-- Signal `j` pays what is owed for it. -/
theorem owe_signal (a : ℕ) (j : Fin 3) (c : Dev nD) : owe a j.val c = owe a (j.val + 1) c + barDue c j := by
  unfold owe; rw [from_step, add_assoc]
/-- Copy `j` pays what is owed for it. -/
theorem owe_copy (j : Fin 3) (c : Dev nD) : owe j.val 3 c = owe (j.val + 1) 3 c + recvDue c j := by
  unfold owe; rw [from_step, from_end, add_zero, add_zero]
/-- After three signals and three copies nothing is owed. -/
theorem owe_done (c : Dev nD) : owe 3 3 c = 0 := by unfold owe; rw [from_end, from_end, add_zero]

/-- The tally at a cell is positive at that cell only. -/
theorem tallyAt_pos {g g' : GSem nD τ sig} {u : Unit} {n : ℕ} (h : 0 < (tallyAt g' () n : CellTallies nD τ sig Unit) g u) : g = g' := by
  by_contra hn
  rw [tallyAt_apply, if_neg fun h' => hn h'.1] at h
  exact Nat.lt_irrefl 0 h

/-- What is owed is owed to receive cells of peers, and, before all signals are out, to barrier cells of peers. -/
theorem owe_pos {a b : ℕ} {c : Dev nD} {g : GSem nD τ sig} {u : Unit} (h : 0 < owe a b c g u) :
    (∃ j, g = recvCell j (peer j c)) ∨ (b < 3 ∧ ∃ j, g = barCell (peer j c)) := by
  unfold owe at h
  rw [Pi.add_apply, Finsupp.add_apply] at h
  rcases Nat.eq_zero_or_pos (from_ (barDue c) b g u) with h0 | h0
  · rw [h0, Nat.add_zero] at h
    obtain ⟨j, hj⟩ := from_pos _ _ h
    exact .inl ⟨j, tallyAt_pos hj⟩
  · obtain ⟨j, hj⟩ := from_pos _ _ h0
    refine .inr ⟨?_, j, tallyAt_pos hj⟩
    unfold from_ at h0
    rw [Finset.sum_apply, Finsupp.finset_sum_apply] at h0
    obtain ⟨i, hi, -⟩ := Finset.exists_ne_zero_of_sum_ne_zero h0.ne'
    have := (Finset.mem_filter.mp hi).2
    omega

/-- The cells that take part in the order of waits: those of the devices' cores. -/
def L (g : GSem nD τ sig) : Finset Unit := if g.1.2 = .tc then {()} else ∅
/-- Staging and send cells at 0, barrier cells at 1, receive cells at 2. -/
def lv (g : GSem nD τ sig) (_ : Unit) : ℕ := match g.2 with
  | .reg _ => 1
  | .dma q => if q.val < 6 then 0 else 2

/-- Other cells take no part. -/
theorem L_of_ne (g : GSem nD τ sig) (h : g.1.2 ≠ .tc) : L g = ∅ := if_neg h
/-- A core's cell takes part. -/
theorem L_tc (c : Dev nD) (sm : SemLoc sig) : L ((c : Thread nD τ), sm) = {()} := if_pos rfl
/-- A receive cell is at 2. -/
theorem lv_recv (j : Fin 3) (c : Dev nD) : lv (recvCell j c) () = 2 := by
  dsimp only [lv]; rw [if_neg (by rw [recvS_val]; omega)]

/-- A staging cell or send cell may be waited on whatever is owed. -/
theorem mayWait_low (c : Dev nD) (q : DmaSem sig) (hq : q.val < 6) (a b : ℕ) :
    (levAts L lv : sProp 𝕄) ⊢ MayWait (c : Thread nD τ) (.dma q) () (owe a b c) := by
  refine MayOwe.of_cut (L := L) (lev := lv) 0 (fun p hp => by rw [Finset.mem_singleton.mp hp, L_tc]; exact Finset.mem_singleton_self _)
    (fun g u hg => ?_) (fun p hp => by rw [Finset.mem_singleton.mp hp]; dsimp only [lv]; rw [if_pos hq]) (fun g u hg => ?_)
  · rcases owe_pos hg with ⟨j, rfl⟩ | ⟨-, j, rfl⟩ <;> exact Finset.mem_singleton_self _
  · rcases owe_pos hg with ⟨j, rfl⟩ | ⟨-, j, rfl⟩
    · rw [lv_recv]; decide
    · exact Nat.one_pos

/-- The barrier may be waited on once all three signals are out. -/
theorem mayWait_bar (c : Dev nD) (a : ℕ) : (levAts L lv : sProp 𝕄) ⊢ MayWait (c : Thread nD τ) (.reg barS) () (owe a 3 c) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact le_rfl) (fun g u hg => ?_)
  · rcases owe_pos hg with ⟨j, rfl⟩ | ⟨h, -⟩
    · exact Finset.mem_singleton_self _
    · exact absurd h (Nat.lt_irrefl 3)
  · rcases owe_pos hg with ⟨j, rfl⟩ | ⟨h, -⟩
    · rw [lv_recv]; decide
    · exact absurd h (Nat.lt_irrefl 3)

end Cert.Lnbwd

end
-- ==== Proof.Steps.lean ====
/-
The kernel's communication steps, each stated once for all distances.

A signal gives the peer the slot it will write into; the barrier wait brings the slots of the peers; a copy lends a
share of the result buffer and the peer's slot; the two waits per distance bring the share and the own slot back.
-/
module

public import proofs.«01_k».proof.Proof.Protocol

@[expose] public section

noncomputable section

namespace Cert.Lnbwd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants: the kernel has no unbounded loop. -/
abbrev 𝒱₀ : Variants := Variants.none

/-! ## All cells of all devices -/

/-- A device's seven cells in one numbering: the barrier 0, the sends 1 to 3, the receives 4 to 6. -/
def csem (k : Fin 7) : SemLoc sig := match k with
  | 0 => .reg barS
  | 1 => .dma (sendS 0) | 2 => .dma (sendS 1) | 3 => .dma (sendS 2)
  | 4 => .dma (recvS 0) | 5 => .dma (recvS 1) | 6 => .dma (recvS 2)
/-- Device `ck.1`'s cell of number `ck.2`. -/
abbrev kcell (ck : Dev nD × Fin 7) : GSem nD τ sig := ((ck.1 : Thread nD τ), csem ck.2)

/-- The number of the send cell `j`. -/
def six (j : Fin 3) : Fin 7 := ⟨1 + j.val, by omega⟩
/-- The number of the receive cell `j`. -/
def rix (j : Fin 3) : Fin 7 := ⟨4 + j.val, by omega⟩
/-- The cell of that number is the send semaphore `j`. -/
theorem csem_six (j : Fin 3) : csem (six j) = .dma (sendS j) := by revert j; decide
/-- The cell of that number is the receive semaphore `j`. -/
theorem csem_rix (j : Fin 3) : csem (rix j) = .dma (recvS j) := by revert j; decide

variable (P : Dev nD → FVec F S2x512 .f32) (K : Dev nD × Fin 7 → ℕ)

/-- Every cell's invariant, and that every cell has reached its round: shared knowledge. -/
def records : sProp 𝕄 :=
  iprop((bigSep Finset.univ fun ck : Dev nD × Fin 7 => cellInv ER (sched P) (K ck) (kcell ck))
    ∗ bigSep Finset.univ fun ck : Dev nD × Fin 7 => reached ER (kcell ck) 0)

/-- The records may be used as often as wanted. -/
instance records_persistent : BI.Persistent (records P K) := by unfold records; infer_instance

omit [FloatOps F] in
/-- A family gives each of its members. -/
theorem every {ι : Type} [Fintype ι] [DecidableEq ι] (Φ : ι → sProp 𝕄) (i : ι) : bigSep Finset.univ Φ ⊢ Φ i :=
  bigSep_elim (Finset.mem_univ i)

omit [FloatOps F] in
/-- The records give the record of each cell. -/
theorem record (ck : Dev nD × Fin 7) (g : GSem nD τ sig) (hg : kcell ck = g) :
    records P K ⊢ iprop(cellInv ER (sched P) (K ck) g ∗ reached ER g 0) := by
  subst hg
  unfold records
  exact BIClass.sep_mono (every (fun ck : Dev nD × Fin 7 => (cellInv ER (sched P) (K ck) (kcell ck) : sProp 𝕄)) ck)
    (every (fun ck : Dev nD × Fin 7 => (reached ER (kcell ck) 0 : sProp 𝕄)) ck)

omit [FloatOps F] in
/-- The records give the record of a barrier cell. -/
theorem record_bar (c : Dev nD) : records P K ⊢ iprop(cellInv ER (sched P) (K (c, 0)) (barCell c) ∗ reached ER (barCell c) 0) :=
  record P K (c, 0) _ rfl
omit [FloatOps F] in
/-- The records give the record of a send cell. -/
theorem record_send (j : Fin 3) (c : Dev nD) : records P K ⊢ iprop(cellInv ER (sched P) (K (c, six j)) (sendCell j c) ∗ reached ER (sendCell j c) 0) :=
  record P K (c, six j) _ (by unfold kcell; rw [csem_six])
omit [FloatOps F] in
/-- The records give the record of a receive cell. -/
theorem record_recv (j : Fin 3) (c : Dev nD) : records P K ⊢ iprop(cellInv ER (sched P) (K (c, rix j)) (recvCell j c) ∗ reached ER (recvCell j c) 0) :=
  record P K (c, rix j) _ (by unfold kcell; rw [csem_rix])

/-- The signal to peer `j` gives it this device's slot at the complementary distance. -/
theorem signal_step {α : Type} {Q : α → sProp 𝕄} {k : PUnit → Prog (TpuEff nD τ sig (Elt F) Λ₀ .tc) α}
    (c n : Dev nD) (j : Fin 3) (hn : n = peer j c) (W : Waits sig Unit) :
    iprop(records P K ∗ owes (c : Thread nD τ) (owe 0 j.val c) W ∗ dutyTok ER (barCell (peer j c)) 0 j ∗ slotAny j.rev c)
      ⊢ iprop((owes (c : Thread nD τ) (owe 0 (j.val + 1) c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toInt) k) Q) := by
  subst hn
  iintro ⟨#HR, HO, Htok, Hslot⟩
  ihave Hrec := (record_bar P K (peer j c)) $$ HR
  icases Hrec with ⟨#HI, #Hr⟩
  iapply (Rounds.wp_signal 𝒱₀ ER (sched P) (c : Thread nD τ) none (dst := (peer j c : Thread nD τ)) (κ := K (peer j c, 0))
      (d := j) (r := 0) (k' := 1) (by rw [duties_bar]; exact Finset.mem_univ _) rfl () (owe 0 (j.val + 1) c) (owe_signal 0 j c))
  isplitr; · iexact HI
  isplitl [HO]; · iexact HO
  isplitl [Htok]; · iexact Htok
  isplitl [Hslot]
  · rw [payload_bar, peer_rev_peer]; iexact Hslot
  iexact Hr

/-- The wait for the three units of the own barrier brings the three peers' slots. -/
theorem barrier_step {α : Type} {Q : α → sProp 𝕄} {k : PUnit → Prog (TpuEff nD τ sig (Elt F) Λ₀ .tc) α}
    (c : Dev nD) (W : Waits sig Unit) :
    iprop(records P K ∗ cred (tallyAt (barCell c) () 3) ∗ owes (c : Thread nD τ) (owe 0 3 c) W ∗ levAts L lv ∗ atPos ER (barCell c) 0 ∅ 0)
      ⊢ iprop(((∃ W, owes (c : Thread nD τ) (owe 0 3 c) W) ∗ atPos ER (barCell c) 1 ∅ 0 ∗ (bigSep Finset.univ fun d : Fin 3 => slotAny (F := F) d (peer d c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32 : BitVec 32).toInt) k) Q) := by
  iintro ⟨#HR, Hc, HO, #Hlev, Hat⟩ Hk
  ihave Hrec := (record_bar P K c) $$ HR
  icases Hrec with ⟨#HI, -⟩
  iapply (Rounds.wp_wait_rest_token 𝒱₀ ER (sched P) (c : Thread nD τ) none (κ := K (c, 0)) (k' := 3)
      (wpE_semWait_eq 𝒱₀ (c : Thread nD τ) none Set.univ) (Set.mem_univ _) () (O := owe 0 3 c) (W := W) (R := 0) (m := 0) (T := ∅)
      (by rw [expect_bar])) $$ [Hc HO Hat]
  · isplitr; · iexact HI
    isplitl [Hc]; · iexact Hc
    isplitl [HO]; · iexact HO
    isplitr; · iapply (mayWait_bar c 0); iexact Hlev
    iexact Hat
  iintro ⟨HO, Hat, -, Hpay⟩
  ihave Hp := (Entails.of_eq (rest_bar P c)) $$ Hpay
  iapply Hk
  isplitl [HO]; · iexists _; iexact HO
  isplitl [Hat]; · iexact Hat
  iexact Hp

omit [FloatOps F] in
/-- A transfer cell's duty pays one copy's credit. -/
theorem amount_dma (c : Dev nD) (q : DmaSem sig) : (sched P).amount ((c : Thread nD τ), .dma q) 0 0 = N := rfl

/-- A copy into a slot pays one copy's credit. -/
theorem amount_slot (j : Fin 3) (q : DmaSem sig) : (slotM j).view.amount (.dma q) = N := rfl

omit [FloatOps F] in
/-- The lent share is what the send cell hands back. -/
theorem out_handed (c : Dev nD) (j : Fin 3) :
    (oM.view.loc (c : Thread nD τ) ↦[oM.view.set]{qs j} (P c : (cc0_stg2_0 : Ref sig .tc).ty.Contents (Elt F)) : sProp 𝕄)
      ⊢ (sched P).payload (sendCell j c) 0 0 := by
  rw [payload_send]; exact BI.Entails.refl _

omit [FloatOps F] in
/-- The slot with the contribution written over whatever it held is what the receive cell hands its owner. -/
theorem slot_handed (c : Dev nD) (j : Fin 3) (f : (cc0_scratch0 : Ref sig .tc).ty.Contents (Elt F)) :
    ((slotM j).view.loc (peer j c : Thread nD τ) ↦[(slotM j).view.set]{fullShare}
        ((slotM j).view.write (Elt F) f (oM.view.read (Elt F) (P c)) Finset.univ) : sProp 𝕄)
      ⊢ (sched P).payload (recvCell j (peer j c)) 0 0 := by
  rw [payload_recv, peer_rev_peer]
  unfold slotHas slotPts
  iintro H
  iexists ((slotM j).view.write (Elt F) f (oM.view.read (Elt F) (P c)) Finset.univ)
  isplitr
  · ipureintro; exact View.read_write_univ _ _
  · iexact H

/-- The copy to peer `j`: this device's contribution into the peer's slot `j`. -/
theorem copy_step {α : Type} {Q : α → sProp 𝕄} {k : PUnit → Prog (TpuEff nD τ sig (Elt F) Λ₀ .tc) α}
    (c n : Dev nD) (j : Fin 3) (hn : n = peer j c) (W : Waits sig Unit)
    {hsc : (slotM j : Memref sig (Dev.tc n : Thread nD τ).2.kind .vmem S2x512 .f32).view.ref.isScScratch = false}
    {hsrc : oM.view.WordExact} {hdst : (slotM j).view.WordExact}
    {hsem : DmaTarget.Typed .vmem (.dma (recvS j)) (.remote (Dev.tc n : Thread nD τ) (slotM j) (.dma (sendS j)) hsc)} :
    iprop(records P K ∗ outPts (qs j) c (P c) ∗ slotAny j (peer j c) ∗ owes (c : Thread nD τ) (owe j.val 3 c) W
        ∗ dutyTok ER (sendCell j c) 0 0 ∗ dutyTok ER (recvCell j (peer j c)) 0 0)
      ⊢ iprop((cred (tallyAt (sendCell j c) () N) ∗ owes (c : Thread nD τ) (owe (j.val + 1) 3 c) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oM (.remote (Dev.tc n : Thread nD τ) (slotM j) (.dma (sendS j)) hsc) (.dma (recvS j)) hsrc hdst hsem) k) Q) := by
  subst hn
  unfold slotAny
  iintro ⟨#HR, Hout, ⟨%f, Hslot⟩, HO, Hts, Htr⟩
  ihave Hrec := (record_send P K j c) $$ HR
  icases Hrec with ⟨#HIs, #Hrs⟩
  ihave Hrec := (record_recv P K j (peer j c)) $$ HR
  icases Hrec with ⟨#HIr, #Hrr⟩
  iapply (Rounds.wp_send_pointsTo 𝒱₀ ER (sched P) (c : Thread nD τ) none (c' := (peer j c : Thread nD τ)) (src := oM) (dst := slotM j)
    (sS := .dma (sendS j)) (sem := .dma (recvS j)) (q := qs j) (fs := P c) (κ₁ := K (c, six j)) (κ₂ := K (peer j c, rix j))
    (r₁ := 0) (r₂ := 0) (d₁ := 0) (d₂ := 0) (fd := f)
    (by rw [duties_dma]; exact Finset.mem_singleton_self _) (by rw [duties_dma]; exact Finset.mem_singleton_self _)
    () () N (amount_slot j _) (amount_dma P _ _) (amount_dma P _ _) (owe (j.val + 1) 3 c) (owe_copy j c) (W := W)
    (out_handed P c j) (slot_handed P c j f))
  isplitr; · iexact HIs
  isplitr; · iexact HIr
  isplitl [Hout]; · unfold outPts; iexact Hout
  isplitl [Hslot]; · unfold slotPts; iexact Hslot
  isplitl [HO]; · iexact HO
  isplitl [Hts]; · iexact Hts
  isplitr; · iexact Hrs
  isplitl [Htr]; · iexact Htr
  iexact Hrr

/-- A wait on a transfer cell, all debts paid: its one duty's payload. -/
theorem dma_step {α : Type} {Q : α → sProp 𝕄} {k : PUnit → Prog (TpuEff nD τ sig (Elt F) Λ₀ .tc) α}
    (c : Dev nD) (q : DmaSem sig) (κ : ℕ) {sp sp' : Space} {s s' : Shape} {e e' : EltTy}
    {src : Memref sig (c : Thread nD τ).2.kind sp' s' e'} {dst : Memref sig .tc sp s e} {hsrc : src.view.WordExact} {hdst : dst.view.WordExact}
    (hN : dst.view.dmaCredit = N) :
    iprop(cellInv ER (sched P) κ ((c : Thread nD τ), .dma q) ∗ cred (tallyAt ((c : Thread nD τ), .dma q) () N) ∗ (∃ W, owes (c : Thread nD τ) 0 W)
        ∗ atPos ER ((c : Thread nD τ), .dma q) 0 ∅ 0)
      ⊢ iprop(((∃ W, owes (c : Thread nD τ) 0 W) ∗ atPos ER ((c : Thread nD τ), .dma q) 1 ∅ 0 ∗ (sched P).payload ((c : Thread nD τ), .dma q) 0 0
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src dst hsrc hdst) k) Q) := by
  iintro ⟨#HI, Hc, ⟨%W, HO⟩, Hat⟩ Hk
  iapply (Rounds.wp_wait_rest_token 𝒱₀ ER (sched P) (c : Thread nD τ) none (κ := κ)
      (wpE_waitDma2_eq 𝒱₀ (c : Thread nD τ) none Set.univ) (Set.mem_univ _) () (O := 0) (W := W) (R := 0) (m := 0) (T := ∅)
      (by rw [Nat.zero_add, expect_dma, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_dma P c q)) $$ Hpay
  iapply Hk
  isplitl [HO]; · iexists _; iexact HO
  isplitl [Hat]; · iexact Hat
  iexact Hp

/-- The wait on send cell `j` brings the lent share of the result buffer back. -/
theorem sent_step {α : Type} {Q : α → sProp 𝕄} {k : PUnit → Prog (TpuEff nD τ sig (Elt F) Λ₀ .tc) α}
    (c : Dev nD) (j : Fin 3) {sp sp' : Space} {s s' : Shape} {e e' : EltTy}
    {src : Memref sig (c : Thread nD τ).2.kind sp' s' e'} {dst : Memref sig .tc sp s e} {hsrc : src.view.WordExact} {hdst : dst.view.WordExact}
    (hN : dst.view.dmaCredit = N) :
    iprop(records P K ∗ cred (tallyAt (sendCell j c) () N) ∗ (∃ W, owes (c : Thread nD τ) 0 W) ∗ atPos ER (sendCell j c) 0 ∅ 0)
      ⊢ iprop(((∃ W, owes (c : Thread nD τ) 0 W) ∗ atPos ER (sendCell j c) 1 ∅ 0 ∗ outPts (qs j) c (P c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS j) src dst hsrc hdst) k) Q) := by
  iintro ⟨#HR, Hc, HO, Hat⟩
  ihave Hrec := (record_send P K j c) $$ HR
  icases Hrec with ⟨#HI, -⟩
  rw [← payload_send P c j 0]
  iapply (dma_step P c (sendS j) (K (c, six j)) hN)
  isplitr; · iexact HI
  isplitl [Hc]; · iexact Hc
  isplitl [HO]; · iexact HO
  iexact Hat

/-- The wait on receive cell `j` brings the own slot `j` back, reading the contribution of the device behind. -/
theorem got_step {α : Type} {Q : α → sProp 𝕄} {k : PUnit → Prog (TpuEff nD τ sig (Elt F) Λ₀ .tc) α}
    (c : Dev nD) (j : Fin 3) {sp sp' : Space} {s s' : Shape} {e e' : EltTy}
    {src : Memref sig (c : Thread nD τ).2.kind sp' s' e'} {dst : Memref sig .tc sp s e} {hsrc : src.view.WordExact} {hdst : dst.view.WordExact}
    (hN : dst.view.dmaCredit = N) :
    iprop(records P K ∗ cred (tallyAt (recvCell j c) () N) ∗ (∃ W, owes (c : Thread nD τ) 0 W) ∗ atPos ER (recvCell j c) 0 ∅ 0)
      ⊢ iprop(((∃ W, owes (c : Thread nD τ) 0 W) ∗ atPos ER (recvCell j c) 1 ∅ 0 ∗ slotHas j c (P (peer j.rev c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS j) src dst hsrc hdst) k) Q) := by
  iintro ⟨#HR, Hc, HO, Hat⟩
  ihave Hrec := (record_recv P K j c) $$ HR
  icases Hrec with ⟨#HI, -⟩
  rw [← payload_recv P c j 0]
  iapply (dma_step P c (recvS j) (K (c, rix j)) hN)
  isplitr; · iexact HI
  isplitl [Hc]; · iexact Hc
  isplitl [HO]; · iexact HO
  iexact Hat

/-- Every cell, its round over, closes: its counter, at zero, is the device's again. -/
theorem close_all (c : Dev nD) :
    iprop(records P K ∗ bigSep Finset.univ fun i : Fin 7 => atPos ER (kcell (c, i)) 1 ∅ 0)
      ⊢ (|={Set.univ}=> bigSep Finset.univ fun i : Fin 7 => semVal (kcell (c, i)) 0 : sProp 𝕄) := by
  refine ((sep_mono_left (BI.bigSep_of_persistent Finset.univ (records P K))).trans (Entails.of_eq (bigSep_sep' _ _ _).symm)).trans
    ((bigSep_mono fun i _ => ?_).trans (bigSep_fupd _ _))
  show iprop(records P K ∗ atPos ER (kcell (c, i)) 1 ∅ 0) ⊢ (|={Set.univ}=> semVal (kcell (c, i)) 0 : sProp 𝕄)
  iintro ⟨#HR, Hat⟩
  ihave Hrec := (record P K (c, i) _ rfl) $$ HR
  icases Hrec with ⟨#HI, -⟩
  imod (Rounds.cell_close ER (sched P) (Set.mem_univ (K (c, i))) (fun h => h) (R := 1) (duties_later P (kcell (c, i)))) $$ [Hat] with Hz
  · isplitr; · iexact HI
    iexact Hat
  imodintro
  iexact Hz

end Cert.Lnbwd

end
-- ==== Proof.State.lean ====
/-
The kernel's data at its one point: what is staged, what a device holds before and after, and its result.
-/
module

public import proofs.«01_k».proof.Proof.Steps
public import Idealize.ShloMosaic.Lib.Ring.FamCut

@[expose] public section

noncomputable section

namespace Cert.Lnbwd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: arbitrary memory, every semaphore at zero, arbitrary generator registers. -/
def s₀ : MemSt nD τ sig (Elt F) := ⟨m, fun _ => 0, ρ⟩

/-- Device `c`'s block of `x`, as staged. -/
def xIn (c : Dev nD) : Vec F S512x512 .bf16 :=
  (win0_0.blk (0 : Fin 1)).view.read (Elt F) (m ((c : Thread nD τ).loc main_arg0))
/-- Device `c`'s block of `dy`, as staged. -/
def yIn (c : Dev nD) : Vec F S512x512 .bf16 :=
  (win0_1.blk (0 : Fin 1)).view.read (Elt F) (m ((c : Thread nD τ).loc main_arg1))

/-- Device `c`'s contribution. -/
def P (c : Dev nD) : FVec F S2x512 .f32 := part (xIn m c) (yIn m c)

/-- The result on device `c`: its own contribution, then those in its slots 0, 1, 2, added in that order. -/
def outAt (c : Dev nD) : FVec F S2x512 .f32 :=
  addf (addf (addf (P m c) (P m (peer (0 : Fin 3).rev c))) (P m (peer (1 : Fin 3).rev c))) (P m (peer (2 : Fin 3).rev c))

/-! ## The state before and after the kernel's one point -/

omit [FloatOps F] in
/-- A family over seven, one by one. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The right to pay peer `j`'s barrier cell, its receive cell `j`, and the own send cell `j`. -/
def payTok (c : Dev nD) (j : Fin 3) : sProp 𝕄 :=
  iprop(dutyTok ER (barCell (peer j c)) 0 j ∗ dutyTok ER (recvCell j (peer j c)) 0 0 ∗ dutyTok ER (sendCell j c) 0 0)

/-- What is device `c`'s alone of the exchange's ghost state: its positions at its seven cells, and its rights to pay. -/
def mine (c : Dev nD) : sProp 𝕄 :=
  iprop((bigSep Finset.univ fun i : Fin 7 => atPos ER (kcell (c, i)) 0 ∅ 0) ∗ bigSep Finset.univ fun j : Fin 3 => payTok (F := F) c j)

/-- The credit its peers owe it. -/
def due (c : Dev nD) : sProp 𝕄 :=
  iprop(cred (tallyAt (barCell c) () 3) ∗ bigSep Finset.univ fun j : Fin 3 => cred (tallyAt (recvCell j c) () N))

/-- What device `c` starts with: the shared records, its own part of the exchange's ghost state, the credit owed to it and the order of waits. -/
def start (c : Dev nD) : sProp 𝕄 := iprop((∃ K, records (P m) K ∗ mine (F := F) c) ∗ due (F := F) c ∗ levAts L lv)

/-- What of the receive buffer no slot holds. -/
def restAny (c : Dev nD) : sProp 𝕄 :=
  iprop(∃ f, ((c : Thread nD τ).loc cc0_scratch0) ↦[Ring.restOf fun j : Fin 3 => (slotM j).view.set]{fullShare} f)

/-- The receive buffer, cut into its slots. -/
def slots (c : Dev nD) : sProp 𝕄 := iprop((bigSep Finset.univ fun j : Fin 3 => slotAny (F := F) j c) ∗ restAny (F := F) c)

omit [FloatOps F] in
/-- A slot with any contents, as a part of the receive buffer. -/
theorem slotAny_eq (j : Fin 3) (c : Dev nD) :
    slotAny (F := F) j c = (iprop(∃ f, ((c : Thread nD τ).loc cc0_scratch0) ↦[(slotM j).view.set]{fullShare} f) : sProp 𝕄) := rfl

omit [FloatOps F] in
/-- The receive buffer may be cut into its slots. -/
theorem slots_of_whole (c : Dev nD) : (iprop(∃ f, ((c : Thread nD τ).loc cc0_scratch0) ↦{fullShare} f) : sProp 𝕄) ⊢ slots (F := F) c := by
  unfold slots restAny
  simp only [slotAny_eq]
  exact Ring.fam_split_ex (ℓ := (c : Thread nD τ).loc cc0_scratch0) (fun j : Fin 3 => (slotM j).view.set) slot_disjoint

omit [FloatOps F] in
/-- The slots make the receive buffer whole again. -/
theorem whole_of_slots (c : Dev nD) : slots (F := F) c ⊢ (iprop(∃ f, ((c : Thread nD τ).loc cc0_scratch0) ↦{fullShare} f) : sProp 𝕄) := by
  unfold slots restAny
  simp only [slotAny_eq]
  iintro ⟨H1, %f, H2⟩
  iapply (Ring.fam_join (ℓ := (c : Thread nD τ).loc cc0_scratch0) (fun j : Fin 3 => (slotM j).view.set) slot_disjoint f)
  isplitl [H1]; · iexact H1
  iexists f; iexact H2

/-- The state before the one point: the start, with the receive buffer cut into its slots. -/
def Φ₀ (c : Dev nD) : sProp 𝕄 := iprop(start m c ∗ slots (F := F) c)
/-- The state after it: the slots, and the seven semaphores at zero. -/
def Φ₁ (c : Dev nD) : sProp 𝕄 := iprop(slots (F := F) c ∗ bigSep Finset.univ fun i : Fin 7 => semVal (kcell (c, i)) 0)

/-- The data of the one point on device `c`: what the arrays hold before it, what the staging buffers hold after it, the state and the debts on either side. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => yIn m c
    | ⟨2, _⟩ => outAt m c
  Φ t := match t with
    | ⟨0, _⟩ => Φ₀ m c
    | ⟨_ + 1, _⟩ => Φ₁ c
  q _ := fullShare
  owed t := match t with
    | ⟨0, _⟩ => owe 0 0 c
    | ⟨_ + 1, _⟩ => owe 3 3 c

/-- The block of `x` is fetched before the body. -/
theorem fetch_x (t : Fin cfg0.N) : (cfg0.win (0 : Fin 3)).fetch t = true := fetch0_0 t
/-- The block of `dy` is fetched before the body. -/
theorem fetch_y (t : Fin cfg0.N) : (cfg0.win (1 : Fin 3)).fetch t = true := fetch0_1 t

/-- The staging buffer `b` of device `c`, holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- Owning a whole buffer that reads `X` is the buffer holding `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

end Cert.Lnbwd

end
-- ==== Proof.Body.lean ====
/-
The kernel's body on one device, run effect by effect: three signals, the contribution, the barrier, three copies, six
waits, the sum.
-/
module

public import proofs.«01_k».proof.Proof.State

@[expose] public section

noncomputable section

namespace Cert.Lnbwd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The loads and stores -/

/-- The rectangle of a whole input buffer. -/
abbrev rIn : Rect S512x512 := Rect.unit (s := S512x512) ![0, 0] S512x512.size inb_S512x512_S512x512_0_0
/-- The rectangle of the whole result buffer. -/
abbrev rOut : Rect S2x512 := Rect.unit (s := S2x512) ![0, 0] S2x512.size inb_S2x512_S2x512_0_0

/-- The printed origin is zero on both axes. -/
theorem origin : (![0, 0] : Fin 2 → Nat) = fun _ => 0 := funext fun a => by fin_cases a <;> rfl

omit [FloatOps F] in
/-- Loading the whole of the buffer of `x` gives what it holds. -/
theorem read_x (f : (cc0_stg0_0 : Ref sig .tc).ty.Contents (Elt F)) : xM.view.readAt (Elt F) rIn.toLoadRect f = f :=
  Memref.readAt_unit_zero (Elt F) cc0_stg0_0 origin _ f
omit [FloatOps F] in
/-- Loading the whole of the buffer of `dy` gives what it holds. -/
theorem read_y (f : (cc0_stg1_0 : Ref sig .tc).ty.Contents (Elt F)) : yM.view.readAt (Elt F) rIn.toLoadRect f = f :=
  Memref.readAt_unit_zero (Elt F) cc0_stg1_0 origin _ f
omit [FloatOps F] in
/-- Loading the whole result buffer gives what it holds. -/
theorem read_out (f : (cc0_stg2_0 : Ref sig .tc).ty.Contents (Elt F)) : oM.view.readAt (Elt F) rOut.toLoadRect f = f :=
  Memref.readAt_unit_zero (Elt F) cc0_stg2_0 origin _ f
omit [FloatOps F] in
/-- Storing over the whole result buffer leaves what was stored. -/
theorem write_out (f w : (cc0_stg2_0 : Ref sig .tc).ty.Contents (Elt F)) :
    (oM.access rOut : View sig .tc _ _ _).write (Elt F) f w Finset.univ = w :=
  Memref.write_access_unit_zero_univ (Elt F) cc0_stg2_0 origin _ f w

/-- The two row stores leave the device's contribution. -/
theorem rows_stored (c : Dev nD) (g : (cc0_stg2_0 : Ref sig .tc).ty.Contents (Elt F)) :
    (oM.access (rowRect 1)).write (Elt F) ((oM.access (rowRect 0)).write (Elt F) g (k0_pay5 (k0_pay2 (xIn m c)) (k0_pay3 (yIn m c)) (k0_pay4 (xIn m c))) Finset.univ)
      (k0_pay6 (k0_pay3 (yIn m c))) Finset.univ = P m c := rows_written (xIn m c) (yIn m c) g

/-- A load of slot `j`'s rectangle touches the slot only. -/
theorem slot_loaded (j : Fin 3) : rM.view.setOn (slotRect j).set ⊆ (slotM j).view.set := by
  rw [slot_set]; exact (View.set_slice rM.view (slotRect j)).symm.subset

/-- The last store's payload: the own contribution plus what the three slots read, in their order. -/
theorem total_eq (X A B C : FVec F S2x512 .f32) (f g h : (cc0_scratch0 : Ref sig .tc).ty.Contents (Elt F))
    (hf : (slotM 0).view.read (Elt F) f = A) (hg : (slotM 1).view.read (Elt F) g = B) (hh : (slotM 2).view.read (Elt F) h = C) :
    k0_pay1 X (rM.view.readAt (Elt F) (slotRect 0).toLoadRect f) (rM.view.readAt (Elt F) (slotRect 1).toLoadRect g)
      (rM.view.readAt (Elt F) (slotRect 2).toLoadRect h) = addf (addf (addf X A) B) C := by
  subst hf hg hh
  rw [← load_slot, ← load_slot, ← load_slot]
  unfold k0_pay1
  simp only [shapeCast_self]

/-! ## The result buffer's shares -/

omit [FloatOps F] in
/-- The result buffer whole is the three shares the copies read. -/
theorem out_shares (c : Dev nD) (X : FVec F S2x512 .f32) :
    (((c : Thread nD τ).loc cc0_stg2_0) ↦{fullShare} (X : (cc0_stg2_0 : Ref sig .tc).ty.Contents (Elt F)) : sProp 𝕄)
      ⊣⊢ iprop(outPts (qs 0) c X ∗ outPts (qs 1) c X ∗ outPts (qs 2) c X) := by
  unfold outPts
  rw [View.set_whole]
  refine ⟨(pointsTo_share (PosShare.mem_left_op_right fullShare)).1.trans (sep_mono_right (pointsTo_share (PosShare.mem_left_op_right fullShare.right)).1),
    (sep_mono_right (pointsTo_share (PosShare.mem_left_op_right fullShare.right)).2).trans (pointsTo_share (PosShare.mem_left_op_right fullShare)).2⟩

/-! ## The body -/

/-- What the body starts from, the buffers' contents named. -/
def bodyPre (K : Dev nD × Fin 7 → ℕ) (c : Dev nD) (g : (cc0_stg2_0 : Ref sig .tc).ty.Contents (Elt F)) : sProp 𝕄 :=
  iprop(records (P m) K ∗ mine (F := F) c ∗ due (F := F) c ∗ levAts L lv ∗ slots (F := F) c ∗ (∃ W, owes (c : Thread nD τ) (owe 0 0 c) W)
    ∗ (((c : Thread nD τ).loc cc0_stg0_0) ↦{fullShare} xIn m c) ∗ (((c : Thread nD τ).loc cc0_stg1_0) ↦{fullShare} yIn m c)
    ∗ ((c : Thread nD τ).loc cc0_stg2_0) ↦{fullShare} g)

/-- What it ends with. -/
def bodyPost (c : Dev nD) : sProp 𝕄 :=
  iprop(Φ₁ (F := F) c ∗ (∃ W, owes (c : Thread nD τ) 0 W)
    ∗ (((c : Thread nD τ).loc cc0_stg0_0) ↦{fullShare} xIn m c) ∗ (((c : Thread nD τ).loc cc0_stg1_0) ↦{fullShare} yIn m c)
    ∗ ((c : Thread nD τ).loc cc0_stg2_0) ↦{fullShare} (outAt m c : (cc0_stg2_0 : Ref sig .tc).ty.Contents (Elt F)))

set_option maxHeartbeats 1600000 in
/-- The kernel on device `c`, effect by effect. -/
theorem sound_body (K : Dev nD × Fin 7 → ℕ) (c : Dev nD) (g : (cc0_stg2_0 : Ref sig .tc).ty.Contents (Elt F)) (Kt : PUnit → sProp 𝕄) :
    iprop(bodyPre m K c g ∗ (bodyPost m c -∗ Kt ⟨⟩))
      ⊢ wp frame (wpE (defs₀ (F := F)) 𝒱₀ c none) Set.univ
          (cc0_body xM (Memref.isWhole_whole _) yM (Memref.isWhole_whole _) oM (Memref.isWhole_whole _)
            rM (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold bodyPre mine due slots
  simp only [bigSep_fin3, bigSep_fin7]
  unfold payTok
  iintro ⟨⟨#HR, ⟨⟨HaB, HaS0, HaS1, HaS2, HaV0, HaV1, HaV2⟩, ⟨HtB0, HtV0, HtS0⟩, ⟨HtB1, HtV1, HtS1⟩, HtB2, HtV2, HtS2⟩, ⟨HcB, HcV0, HcV1, HcV2⟩, #Hlev,
    ⟨⟨Hs0, Hs1, Hs2⟩, Hrest⟩, ⟨%W, HO⟩, Hx, Hy, Hout⟩, Hk⟩
  -- the three signals
  iapply (signal_step (P m) K c _ 0 (signal0 c) W) $$ [HO HtB0 Hs2]
  · isplitr; · iexact HR
    isplitl [HO]; · iexact HO
    isplitl [HtB0]; · iexact HtB0
    iexact Hs2
  iintro HO
  iapply (signal_step (P m) K c _ 1 (signal1 c) W) $$ [HO HtB1 Hs1]
  · isplitr; · iexact HR
    isplitl [HO]; · iexact HO
    isplitl [HtB1]; · iexact HtB1
    iexact Hs1
  iintro HO
  iapply (signal_step (P m) K c _ 2 (signal2 c) W) $$ [HO HtB2 Hs0]
  · isplitr; · iexact HR
    isplitl [HO]; · iexact HO
    isplitl [HtB2]; · iexact HtB2
    iexact Hs0
  iintro HO
  -- the two blocks are read, the two rows stored
  iapply (wp_load 𝒱₀ (c : Thread nD τ) none Set.univ (m := xM) (Finset.subset_univ _)) $$ Hx; iintro Hx
  rw [read_x]
  iapply (wp_load 𝒱₀ (c : Thread nD τ) none Set.univ (m := yM) (Finset.subset_univ _)) $$ Hy; iintro Hy
  rw [read_y]
  iapply (wp_load 𝒱₀ (c : Thread nD τ) none Set.univ (m := oM) (Finset.subset_univ _)) $$ Hout; iintro Hout
  iapply (wp_store 𝒱₀ (c : Thread nD τ) none Set.univ (m := oM) (r := rowRect 0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := rowRect 1) (Mk := Finset.univ) (Finset.subset_univ _)) $$ Hout; iintro Hout
  rw [rows_stored]
  ihave Hout := (out_shares c (P m c)).1 $$ Hout
  icases Hout with ⟨Ho0, Ho1, Ho2⟩
  -- the barrier
  iapply (barrier_step (P m) K c W) $$ [HcB HO HaB]
  · isplitr; · iexact HR
    isplitl [HcB]; · iexact HcB
    isplitl [HO]; · iexact HO
    isplitr; · iexact Hlev
    iexact HaB
  rw [bigSep_fin3]
  iintro ⟨⟨%W1, HO⟩, HaB, Hp0, Hp1, Hp2⟩
  -- the three copies
  iapply (copy_step (P m) K c _ 0 (transfer0 c) W1) $$ [Ho0 Hp0 HO HtS0 HtV0]
  · isplitr; · iexact HR
    isplitl [Ho0]; · iexact Ho0
    isplitl [Hp0]; · iexact Hp0
    isplitl [HO]; · iexact HO
    isplitl [HtS0]; · iexact HtS0
    iexact HtV0
  iintro ⟨HcS0, HO⟩
  iapply (copy_step (P m) K c _ 1 (transfer1 c) W1) $$ [Ho1 Hp1 HO HtS1 HtV1]
  · isplitr; · iexact HR
    isplitl [Ho1]; · iexact Ho1
    isplitl [Hp1]; · iexact Hp1
    isplitl [HO]; · iexact HO
    isplitl [HtS1]; · iexact HtS1
    iexact HtV1
  iintro ⟨HcS1, HO⟩
  iapply (copy_step (P m) K c _ 2 (transfer2 c) W1) $$ [Ho2 Hp2 HO HtS2 HtV2]
  · isplitr; · iexact HR
    isplitl [Ho2]; · iexact Ho2
    isplitl [Hp2]; · iexact Hp2
    isplitl [HO]; · iexact HO
    isplitl [HtS2]; · iexact HtS2
    iexact HtV2
  iintro ⟨HcS2, HO⟩
  ihave HO := (show owes (c : Thread nD τ) (owe ((2 : Fin 3).val + 1) 3 c) W1 ⊢ (∃ W, owes (c : Thread nD τ) 0 W : sProp 𝕄) from by
    rw [show owe ((2 : Fin 3).val + 1) 3 c = 0 from owe_done c]; iintro H; iexists W1; iexact H) $$ HO
  -- the six waits
  iapply (sent_step (P m) K c 0 (src := slotM 0) (dst := oM) rfl) $$ [HcS0 HO HaS0]
  · isplitr; · iexact HR
    isplitl [HcS0]; · iexact HcS0
    isplitl [HO]; · iexact HO
    iexact HaS0
  iintro ⟨HO, HaS0, Ho0⟩
  iapply (got_step (P m) K c 0 (src := oM) (dst := slotM 0) rfl) $$ [HcV0 HO HaV0]
  · isplitr; · iexact HR
    isplitl [HcV0]; · iexact HcV0
    isplitl [HO]; · iexact HO
    iexact HaV0
  iintro ⟨HO, HaV0, Hs0⟩
  iapply (sent_step (P m) K c 1 (src := slotM 1) (dst := oM) rfl) $$ [HcS1 HO HaS1]
  · isplitr; · iexact HR
    isplitl [HcS1]; · iexact HcS1
    isplitl [HO]; · iexact HO
    iexact HaS1
  iintro ⟨HO, HaS1, Ho1⟩
  iapply (got_step (P m) K c 1 (src := oM) (dst := slotM 1) rfl) $$ [HcV1 HO HaV1]
  · isplitr; · iexact HR
    isplitl [HcV1]; · iexact HcV1
    isplitl [HO]; · iexact HO
    iexact HaV1
  iintro ⟨HO, HaV1, Hs1⟩
  iapply (sent_step (P m) K c 2 (src := slotM 2) (dst := oM) rfl) $$ [HcS2 HO HaS2]
  · isplitr; · iexact HR
    isplitl [HcS2]; · iexact HcS2
    isplitl [HO]; · iexact HO
    iexact HaS2
  iintro ⟨HO, HaS2, Ho2⟩
  iapply (got_step (P m) K c 2 (src := oM) (dst := slotM 2) rfl) $$ [HcV2 HO HaV2]
  · isplitr; · iexact HR
    isplitl [HcV2]; · iexact HcV2
    isplitl [HO]; · iexact HO
    iexact HaV2
  iintro ⟨HO, HaV2, Hs2⟩
  -- every cell closes
  imod (close_all (P m) K c) $$ [HaB HaS0 HaS1 HaS2 HaV0 HaV1 HaV2] with Hz
  · isplitr; · iexact HR
    rw [bigSep_fin7]
    isplitl [HaB]; · iexact HaB
    isplitl [HaS0]; · iexact HaS0
    isplitl [HaS1]; · iexact HaS1
    isplitl [HaS2]; · iexact HaS2
    isplitl [HaV0]; · iexact HaV0
    isplitl [HaV1]; · iexact HaV1
    iexact HaV2
  -- the sum of the four contributions
  ihave Hout := (out_shares c (P m c)).2 $$ [Ho0 Ho1 Ho2]
  · isplitl [Ho0]; · iexact Ho0
    isplitl [Ho1]; · iexact Ho1
    iexact Ho2
  unfold slotHas slotPts
  icases Hs0 with ⟨%f0, %h0, Hs0⟩
  icases Hs1 with ⟨%f1, %h1, Hs1⟩
  icases Hs2 with ⟨%f2, %h2, Hs2⟩
  iapply (wp_load 𝒱₀ (c : Thread nD τ) none Set.univ (m := oM) (Finset.subset_univ _)) $$ Hout; iintro Hout
  rw [read_out]
  iapply (wp_load 𝒱₀ (c : Thread nD τ) none Set.univ (m := rM) (slot_loaded 0)) $$ Hs0; iintro Hs0
  iapply (wp_load 𝒱₀ (c : Thread nD τ) none Set.univ (m := rM) (slot_loaded 1)) $$ Hs1; iintro Hs1
  iapply (wp_load 𝒱₀ (c : Thread nD τ) none Set.univ (m := rM) (slot_loaded 2)) $$ Hs2; iintro Hs2
  iapply (wp_load 𝒱₀ (c : Thread nD τ) none Set.univ (m := oM) (Finset.subset_univ _)) $$ Hout; iintro Hout
  iapply (wp_store 𝒱₀ (c : Thread nD τ) none Set.univ (m := oM) (r := rOut) (Mk := Finset.univ) (Finset.subset_univ _)) $$ Hout; iintro Hout
  rw [write_out, wp_ret]; imodintro
  iapply Hk
  unfold bodyPost Φ₁ slots
  isplitl [Hs0 Hs1 Hs2 Hrest Hz]
  · isplitr [Hz]
    · isplitr [Hrest]
      · rw [bigSep_fin3]
        unfold slotAny slotPts
        isplitl [Hs0]; · iexists f0; iexact Hs0
        isplitl [Hs1]; · iexists f1; iexact Hs1
        iexists f2; iexact Hs2
      · iexact Hrest
    · iexact Hz
  isplitl [HO]; · iexact HO
  isplitl [Hx]; · iexact Hx
  isplitl [Hy]; · iexact Hy
  rw [outAt, ← total_eq (P m c) _ _ _ f0 f1 f2 h0 h1 h2]
  iexact Hout

end Cert.Lnbwd

end
-- ==== Proof.Ghost.lean ====
/-
The exchange's ghost state: made once for all devices, its cells' invariants allocated, its rights to pay dealt along
the lines to the devices that pay, and the credit each device starts with.
-/
module

public import proofs.«01_k».proof.Proof.State

@[expose] public section

noncomputable section

namespace Cert.Lnbwd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights, as minted -/

/-- The kernel's own semaphores: three sends, three receives. -/
def osem (i : Fin 6) : SemLoc sig := csem ⟨i.val + 1, by omega⟩

/-- The six listed semaphores are distinct, and none is a staging semaphore. -/
theorem ownSemFacts : Pipeline.OwnSemFacts cfg0.spec osem := by decide

/-- A device's seven cells are distinct. -/
theorem csem_injective : Function.Injective csem := by decide

/-- The cells of all devices are distinct. -/
theorem kcell_injective : Function.Injective (kcell : Dev nD × Fin 7 → GSem nD τ sig) := fun a b h =>
  Prod.ext (congrArg (fun g : GSem nD τ sig => g.1.1) h) (csem_injective (congrArg Prod.snd h))

/-- The seven cells of all devices. -/
def allCells : Finset (GSem nD τ sig) := Finset.univ.map ⟨kcell, kcell_injective⟩

/-- A device's nine duties: three at its barrier cell, one at each receive cell, one at each send cell. -/
def dutyOf (kj : Fin 3 × Fin 3) : SemLoc sig × ℕ × Fin 3 := match kj.1 with
  | 0 => (.reg barS, 0, kj.2)
  | 1 => (.dma (recvS kj.2), 0, 0)
  | 2 => (.dma (sendS kj.2), 0, 0)

/-- A device's nine duties are distinct. -/
theorem dutyOf_injective : Function.Injective dutyOf := by decide

/-- A duty of a device, with the cell it belongs to. -/
def tokOf (x : Dev nD × Fin 3 × Fin 3) : GSem nD τ sig × ℕ × Fin 3 := (((x.1 : Thread nD τ), (dutyOf x.2).1), (dutyOf x.2).2)

/-- The duties of all devices are distinct. -/
theorem tokOf_injective : Function.Injective tokOf := fun a b h =>
  Prod.ext (congrArg (fun x : GSem nD τ sig × ℕ × Fin 3 => x.1.1.1) h)
    (dutyOf_injective (Prod.ext (congrArg (fun x : GSem nD τ sig × ℕ × Fin 3 => x.1.2) h) (congrArg (fun x : GSem nD τ sig × ℕ × Fin 3 => x.2) h)))

/-- The duties of all devices. -/
def allToks : Finset (GSem nD τ sig × ℕ × Fin 3) := Finset.univ.map ⟨tokOf, tokOf_injective⟩

/-- The launch's element: the staging library's part, and the exchange's. -/
def u₀ : UU := (initOf (Pipeline.cells cfgs cellOf_inj) (Pipeline.launchToks cfgs cellOf_inj), initOf allCells allToks)

/-- The rights to pay the duties of device `c`'s own cells. -/
def ownToks (c : Dev nD) : sProp 𝕄 :=
  iprop((bigSep Finset.univ fun j : Fin 3 => dutyTok ER (barCell c) 0 j) ∗ (bigSep Finset.univ fun j : Fin 3 => dutyTok ER (recvCell j c) 0 (0 : Fin 3))
    ∗ bigSep Finset.univ fun j : Fin 3 => dutyTok ER (sendCell j c) 0 (0 : Fin 3))

/-- A device's positions at its cells, and that they are reached. -/
def marks (c : Dev nD) : sProp 𝕄 :=
  iprop((bigSep Finset.univ fun i : Fin 7 => atPos ER (kcell (c, i)) 0 (∅ : Finset (Fin 3)) 0) ∗ bigSep Finset.univ fun i : Fin 7 => reached ER (kcell (c, i)) 0)

/-- What the launch's element gives device `c`. -/
def G (c : Dev nD) : sProp 𝕄 :=
  iprop((bigSep Finset.univ fun i : Fin 7 => roundState ER (sched (P m)) (kcell (c, i)) 0) ∗ marks (F := F) c ∗ ownToks (F := F) c)

/-- What device `c` holds once the cells are allocated and the rights dealt. -/
def G' (c : Dev nD) : sProp 𝕄 := iprop(∃ K, records (P m) K ∗ mine (F := F) c)

omit [FloatOps F] in
/-- A family over all cells is a family over devices and their seven cells. -/
theorem cells_by_device (Φ : GSem nD τ sig → sProp 𝕄) :
    bigSep allCells Φ = bigSep Finset.univ fun c : Dev nD => bigSep Finset.univ fun i : Fin 7 => Φ (kcell (c, i)) := by
  unfold allCells; rw [bigSep_map, bigSep_univ_prod]; rfl

omit [FloatOps F] in
/-- The rights to pay all duties, sorted by the device whose cells they pay. -/
theorem toks_by_device : bigSep allToks (fun x => (dutyTok ER x.1 x.2.1 x.2.2 : sProp 𝕄)) = bigSep Finset.univ fun c : Dev nD => ownToks (F := F) c := by
  unfold allToks; rw [bigSep_map, bigSep_univ_prod]
  refine bigSep_congr fun c _ => ?_
  rw [bigSep_univ_prod, bigSep_fin3]; rfl

/-- The exchange's element funds every device. -/
theorem fund_exchange : BI.own (ER (initOf allCells allToks)) ⊢ (|==> bigSep Finset.univ (G m) : sProp 𝕄) := by
  iintro HX
  imod (Rounds.fund ER (sched (P m)) allCells allToks) $$ HX with ⟨Hst, Hr, Hat, Htok⟩
  imodintro
  ihave Hst := (Entails.of_eq (cells_by_device fun g => roundState ER (sched (P m)) g 0)) $$ Hst
  ihave Hat := (Entails.of_eq (cells_by_device fun g => atPos ER g 0 ∅ 0)) $$ Hat
  ihave Hr := (Entails.of_eq (cells_by_device fun g => reached ER g 0)) $$ Hr
  ihave Htok := (Entails.of_eq toks_by_device) $$ Htok
  unfold G marks; simp only [bigSep_sep']
  isplitl [Hst]; · iexact Hst
  isplitl [Hat Hr]
  · isplitl [Hat] <;> iassumption
  iexact Htok

/-! ## The cells allocated -/

omit [FloatOps F] in
/-- The one semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0) := by
  rw [Pipeline.ownSems0_eq_of_list c osem [0, 1, 2, 3, 4, 5] (by decide) (by decide)]; rfl

omit [FloatOps F] in
/-- The kernel's own semaphores and the barrier's are the seven cells. -/
theorem sems_eq (c : Dev nD) :
    (bigSep Finset.univ fun i : Fin 7 => semVal (kcell (c, i)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_fin7]; rfl

omit [FloatOps F] in
/-- A counter at zero and its round's state make an invariant. -/
theorem alloc_cells (R : Rounds.Schedule (GSem nD τ sig) (Fin 3) 𝕄) [∀ g r d, BI.Storable (upEmb : UEmb _ 𝕄) (R.payload g r d)] (c : Dev nD) :
    iprop((bigSep Finset.univ fun i : Fin 7 => semVal (kcell (c, i)) 0) ∗ bigSep Finset.univ fun i : Fin 7 => roundState ER R (kcell (c, i)) 0)
      ⊢ (|={Set.univ}=> bigSep Finset.univ fun i : Fin 7 => iprop(∃ κ : ℕ, cellInv ER R κ (kcell (c, i))) : sProp 𝕄) := by
  rw [← bigSep_sep']
  exact (bigSep_mono fun i _ => (Rounds.body_intro ER R (kcell (c, i))).trans inv_alloc).trans (bigSep_fupd _ _)

/-- What device `c` contributes to the common step: its allocated cells, its positions and its cells' rights. -/
def laid (c : Dev nD) : sProp 𝕄 :=
  iprop((bigSep Finset.univ fun i : Fin 7 => iprop(∃ κ : ℕ, cellInv ER (sched (P m)) κ (kcell (c, i)))) ∗ marks (F := F) c ∗ ownToks (F := F) c)

/-- A device's semaphores at zero and its share of the launch's element become its allocated cells. -/
theorem lay (c : Dev nD) :
    iprop(Pipeline.ownSems0 (Ix := Unit) (Name := ℕ) (U := UU) (Lvl := ℕ) (Val := Elt F) (τ := τ) osem c ∗ unscopedSems0 c ∗ G m c)
      ⊢ |={Set.univ}=> laid m c := by
  unfold G laid
  iintro ⟨Hos, Hus, Hst, Hrest⟩
  ihave Hv := (Entails.of_eq (sems_eq (F := F) c).symm) $$ [Hos Hus]
  · isplitl [Hus] <;> iassumption
  imod (alloc_cells (sched (P m)) c) $$ [Hv Hst] with Hinv
  · isplitl [Hv] <;> iassumption
  imodintro
  isplitl [Hinv]; · iexact Hinv
  iexact Hrest

/-! ## The rights dealt -/

omit [FloatOps F] in
/-- A family over devices and distances is unchanged when, per distance, the devices move that far along their lines. -/
theorem dealt (Φ : Fin 3 → Dev nD → sProp 𝕄) :
    (bigSep Finset.univ fun c : Dev nD => bigSep Finset.univ fun j : Fin 3 => Φ j c)
      = bigSep Finset.univ fun c : Dev nD => bigSep Finset.univ fun j : Fin 3 => Φ j (peer j c) := by
  rw [BI.bigSep_univ_comm, BI.bigSep_univ_comm fun (c : Dev nD) (j : Fin 3) => Φ j (peer j c)]
  exact bigSep_congr fun j _ => bigSep_univ_equiv (along j) (Φ j)

omit [FloatOps F] in
/-- Each right goes to the device that pays it. -/
theorem toks_dealt : (bigSep Finset.univ fun c : Dev nD => ownToks (F := F) c)
    = bigSep Finset.univ fun c : Dev nD => bigSep Finset.univ fun j : Fin 3 => payTok (F := F) c j := by
  unfold ownToks payTok
  simp only [bigSep_sep']
  rw [dealt fun j c => (dutyTok ER (barCell c) 0 j : sProp 𝕄), dealt fun j c => (dutyTok ER (recvCell j c) 0 (0 : Fin 3) : sProp 𝕄)]

omit [FloatOps F] in
/-- Shared knowledge goes to every member of a family. -/
theorem share_out {R : sProp 𝕄} [BI.Persistent R] {Φ Ψ : Dev nD → sProp 𝕄}
    (h : ∀ i, iprop(R ∗ Φ i) ⊢ Ψ i) : iprop(R ∗ bigSep Finset.univ Φ) ⊢ bigSep Finset.univ Ψ := by
  refine (sep_mono_left (BI.bigSep_of_persistent (Finset.univ : Finset (Dev nD)) R)).trans ?_
  rw [← bigSep_sep']
  exact bigSep_mono fun i _ => h i

/-- What all devices laid down together gives each of them the shared records and the rights that it pays with. -/
theorem gather : (bigSep Finset.univ (laid m) : sProp 𝕄) ⊢ bigSep Finset.univ (G' m) := by
  unfold laid marks
  simp only [bigSep_sep']
  rw [← bigSep_univ_prod (fun ck : Dev nD × Fin 7 => iprop(∃ κ : ℕ, cellInv ER (sched (P m)) κ (kcell ck))),
    ← bigSep_univ_prod (fun ck : Dev nD × Fin 7 => (reached ER (kcell ck) 0 : sProp 𝕄)), toks_dealt]
  iintro ⟨HI, ⟨Hat, #HR⟩, Htok⟩
  ihave HK := (BI.bigSep_exists_pi Finset.univ fun (ck : Dev nD × Fin 7) (κ : ℕ) => (cellInv ER (sched (P m)) κ (kcell ck) : sProp 𝕄)) $$ HI
  icases HK with ⟨%K, #HI⟩
  iapply (share_out (R := records (P m) K) (Φ := mine (F := F)) fun c => show iprop(records (P m) K ∗ mine (F := F) c) ⊢ G' m c from by
    unfold G'; iintro H; iexists K; iexact H)
  isplitr
  · unfold records; isplitl; · iexact HI
    iexact HR
  · unfold mine; simp only [bigSep_sep']
    isplitl [Hat] <;> iassumption

/-- The common step at launch. -/
theorem common_step : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => lay m c).trans (bigSep_fupd _ _)).trans (BI.fupd_mono (gather m))

/-! ## The credit -/

/-- Two cells are one when device and semaphore agree. -/
theorem cell_eq_iff (sm sm' : SemLoc sig) (a b : Dev nD) : Iff ((((a : Thread nD τ), sm) : GSem nD τ sig) = ((b : Thread nD τ), sm')) (a = b ∧ sm = sm') :=
  ⟨fun h => ⟨congrArg (fun g : GSem nD τ sig => g.1.1) h, congrArg Prod.snd h⟩, fun h => by rw [h.1, h.2]⟩

/-- At the start a device owes its three copies and its three signals. -/
theorem owe_all (d : Dev nD) (g : GSem nD τ sig) : owe 0 0 d g () = (∑ j, recvDue d j g ()) + ∑ j, barDue d j g () := by
  unfold owe from_
  simp only [Nat.zero_le, Finset.filter_true]
  rw [Pi.add_apply, Finsupp.add_apply, Finset.sum_apply, Finset.sum_apply, Finsupp.finset_sum_apply, Finsupp.finset_sum_apply]

/-- One device of the line owes the barrier cell of `c` its unit for distance `j + 1`. -/
theorem barDue_bar (d c : Dev nD) (j : Fin 3) : barDue d j (barCell c) () = if d = peer j.rev c then 1 else 0 := by
  unfold barDue; rw [tallyAt_apply]
  refine if_congr ?_ rfl rfl
  rw [← peer_eq_iff, cell_eq_iff]
  exact ⟨fun h => h.1.1.symm, fun h => ⟨⟨h.symm, rfl⟩, rfl⟩⟩

/-- A copy owes a barrier cell nothing. -/
theorem recvDue_bar (d c : Dev nD) (j : Fin 3) : recvDue d j (barCell c) () = 0 := by
  unfold recvDue; rw [tallyAt_apply]
  refine if_neg fun h => ?_
  exact absurd (congrArg Prod.snd h.1) (by simp)

/-- A signal owes a receive cell nothing. -/
theorem barDue_recv (d c : Dev nD) (i j : Fin 3) : barDue d j (recvCell i c) () = 0 := by
  unfold barDue; rw [tallyAt_apply]
  refine if_neg fun h => ?_
  exact absurd (congrArg Prod.snd h.1) (by simp)

/-- The three receive semaphores are distinct. -/
theorem recvS_inj {i j : Fin 3} (h : (SemLoc.dma (recvS i) : SemLoc sig) = .dma (recvS j)) : i = j := by revert i j; decide

/-- The receive cell `i` of `c` is owed one copy, by the device `i + 1` places before `c`. -/
theorem recvDue_recv (d c : Dev nD) (i j : Fin 3) : recvDue d j (recvCell i c) () = if j = i then (if d = peer i.rev c then N else 0) else 0 := by
  unfold recvDue; rw [tallyAt_apply, ← ite_and]
  refine if_congr ?_ rfl rfl
  rw [cell_eq_iff]
  constructor
  · rintro ⟨⟨h1, h2⟩, -⟩
    obtain rfl := recvS_inj h2
    exact ⟨rfl, (peer_eq_iff _ _ _).mp h1.symm⟩
  · rintro ⟨rfl, h⟩
    exact ⟨⟨((peer_eq_iff _ _ _).mpr h).symm, rfl⟩, rfl⟩

/-- What `d` owes the barrier cell of `c` at the start: one unit for each distance at which `c` lies from `d`. -/
theorem owe_bar (d c : Dev nD) : owe 0 0 d (barCell c) () = ∑ j : Fin 3, if d = peer j.rev c then 1 else 0 := by
  rw [owe_all, Finset.sum_eq_zero fun j _ => recvDue_bar d c j, Nat.zero_add]
  exact Finset.sum_congr rfl fun j _ => barDue_bar d c j

/-- What `d` owes the receive cell `i` of `c` at the start: a copy if `c` lies `i + 1` places after `d`, else nothing. -/
theorem owe_recv (d c : Dev nD) (i : Fin 3) : owe 0 0 d (recvCell i c) () = if d = peer i.rev c then N else 0 := by
  rw [owe_all, Finset.sum_eq_zero fun j _ => barDue_recv d c i j, Nat.add_zero, Finset.sum_congr rfl fun j _ => recvDue_recv d c i j,
    Finset.sum_ite_eq', if_pos (Finset.mem_univ _)]

/-- The barrier cell of a device is owed three units in all. -/
theorem credit_bar (c : Dev nD) :
    tallyOn (barCell c) (launchCredit (Pipeline.owing (owe 0 0)) 0 (barCell c)) = (tallyAt (barCell c) () 3 : CellTallies nD τ sig Unit) := by
  unfold tallyAt; refine congrArg _ (Finsupp.ext fun u => ?_); cases u
  rw [Pipeline.launchCredit_owing, Finsupp.single_eq_same]
  rw [Finset.sum_congr rfl fun d _ => owe_bar d c, Finset.sum_comm]
  simp only [Finset.sum_ite_eq', Finset.mem_univ, if_true]
  rfl

/-- Its receive cell `i` is owed one copy. -/
theorem credit_recv (i : Fin 3) (c : Dev nD) :
    tallyOn (recvCell i c) (launchCredit (Pipeline.owing (owe 0 0)) 0 (recvCell i c)) = (tallyAt (recvCell i c) () N : CellTallies nD τ sig Unit) := by
  unfold tallyAt; refine congrArg _ (Finsupp.ext fun u => ?_); cases u
  rw [Pipeline.launchCredit_owing, Finsupp.single_eq_same]
  rw [Finset.sum_congr rfl fun d _ => owe_recv d c i, Finset.sum_ite_eq', if_pos (Finset.mem_univ _)]

omit [FloatOps F] in
/-- The launch's credit is what the peers owe. -/
theorem credits (c : Dev nD) : (Pipeline.launchCred (owe 0 0) c : sProp 𝕄) ⊢ due (F := F) c := by
  unfold Pipeline.launchCred due
  rw [bigSep_univ_at _ (SemLoc.reg barS), credit_bar]
  refine sep_mono_right ?_
  have hsub : Finset.univ.map (⟨fun j : Fin 3 => (SemLoc.dma (recvS j) : SemLoc sig), fun _ _ => recvS_inj⟩ : Fin 3 ↪ SemLoc sig)
      ⊆ Finset.univ.erase (SemLoc.reg barS) := fun x hx => by
    obtain ⟨j, -, rfl⟩ := Finset.mem_map.mp hx
    exact Finset.mem_erase.mpr ⟨by simp, Finset.mem_univ _⟩
  refine (bigSep_subset hsub).trans ?_
  rw [bigSep_map]
  exact bigSep_mono fun j _ => Entails.of_eq (congrArg (fun t => (cred t : sProp 𝕄)) (credit_recv j c))

end Cert.Lnbwd

end
-- ==== Proof.Launch.lean ====
/-
The whole program: from any memory with zero counters, on all sixteen devices, for any float values, every run ends, with
the result arrays as computed, the arguments unchanged and every semaphore at zero.
-/
module

public import proofs.«01_k».proof.Proof.Body
public import proofs.«01_k».proof.Proof.Ghost
public import Idealize.ShloMosaic.Lib.Pipeline.CollectiveSegs
public import Idealize.ShloMosaic.Lib.Quiescent

@[expose] public section

noncomputable section

namespace Cert.Lnbwd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline takes it -/

/-- What the pipeline hands the body, its windows one by one. -/
def handed (c : Dev nD) : sProp 𝕄 :=
  iprop(Φ₀ m c ∗ (dats m ρ 0 c).owesAt () t0_0.castSucc
    ∗ (∃ d, stg c cc0_stg0_0 ((dats m ρ 0 c).before (0 : Fin 3) t0_0 d)) ∗ (∃ d, stg c cc0_stg1_0 ((dats m ρ 0 c).before (1 : Fin 3) t0_0 d))
    ∗ (∃ d, stg c cc0_stg2_0 ((dats m ρ 0 c).before (2 : Fin 3) t0_0 d)))

/-- What it takes back. -/
def returned (c : Dev nD) : sProp 𝕄 :=
  iprop(Φ₁ (F := F) c ∗ (dats m ρ 0 c).owesAt () t0_0.succ
    ∗ stg c cc0_stg0_0 (xIn m c) ∗ stg c cc0_stg1_0 (yIn m c) ∗ stg c cc0_stg2_0 (outAt m c))

/-- The body finds the device's block of `x` in the first staging buffer. -/
theorem before_x (c : Dev nD) (t : Fin cfg0.N) (d) : (dats m ρ 0 c).before (0 : Fin 3) t d = xIn m c := by
  rw [fin_N0 t]; unfold Dat.before; rw [if_pos (fetch_x _)]; rfl
/-- The body finds the device's block of `dy` in the second staging buffer. -/
theorem before_y (c : Dev nD) (t : Fin cfg0.N) (d) : (dats m ρ 0 c).before (1 : Fin 3) t d = yIn m c := by
  rw [fin_N0 t]; unfold Dat.before; rw [if_pos (fetch_y _)]; rfl

/-- Before the body a device owes all its signals and copies. -/
theorem owes_first (c : Dev nD) : (dats m ρ 0 c).owesAt () t0_0.castSucc ⊢ (∃ W, owes (c : Thread nD τ) (owe 0 0 c) W : sProp 𝕄) := by
  unfold Dat.owesAt Pipeline.owesWithin
  iintro ⟨%W, -, H⟩
  iexists W; iexact H

/-- A device that owes nothing is what the pipeline asks for after the body. -/
theorem owes_last (c : Dev nD) : (∃ W, owes (c : Thread nD τ) 0 W : sProp 𝕄) ⊢ (dats m ρ 0 c).owesAt () t0_0.succ := by
  unfold Dat.owesAt Pipeline.owesWithin
  rw [show (dats m ρ 0 c).owed t0_0.succ = 0 from owe_done c]
  iintro ⟨%W, H⟩
  iexists W
  isplitr; · ipureintro; exact fun _ _ => Or.inl trivial
  iexact H

/-- What the pipeline hands over is the body's precondition. -/
theorem handed_named (c : Dev nD) : handed m ρ c ⊢ iprop(∃ K, ∃ g, bodyPre m K c g) := by
  unfold handed Φ₀ start bodyPre
  simp only [before_x, before_y]
  iintro ⟨⟨⟨⟨%K, HR, Hmine⟩, Hdue, Hlev⟩, Hslots⟩, HO, ⟨%d0, %f0, %h0, Hx⟩, ⟨%d1, %f1, %h1, Hy⟩, ⟨%d2, %f2, -, Hout⟩⟩
  subst h0 h1
  ihave HO := (owes_first m ρ c) $$ HO
  iexists K; iexists f2
  isplitl [HR]; · iexact HR
  isplitl [Hmine]; · iexact Hmine
  isplitl [Hdue]; · iexact Hdue
  isplitl [Hlev]; · iexact Hlev
  isplitl [Hslots]; · iexact Hslots
  isplitl [HO]; · iexact HO
  isplitl [Hx]; · iexact Hx
  isplitl [Hy]; · iexact Hy
  iexact Hout

/-- The body's postcondition is what the pipeline takes back. -/
theorem left_returned (c : Dev nD) : bodyPost m c ⊢ returned m ρ c := by
  unfold bodyPost returned
  iintro ⟨HΦ, HO, Hx, Hy, Hout⟩
  ihave HO := (owes_last m ρ c) $$ HO
  isplitl [HΦ]; · iexact HΦ
  isplitl [HO]; · iexact HO
  isplitl [Hx]
  · iexists _; isplitr; · (ipureintro; rfl)
    iexact Hx
  isplitl [Hy]
  · iexists _; isplitr; · (ipureintro; rfl)
    iexact Hy
  · iexists _; isplitr; · (ipureintro; rfl)
    iexact Hout

set_option maxRecDepth 4000 in
/-- The pipeline's obligation on each device. -/
theorem body_obligation (c : Dev nD) : BodyObligation (dats m ρ 0 c) (defs₀ (F := F)) 𝒱₀ () Set.univ := fun t => by
  rw [fin_N0 t]
  rw [bigSep_W0, bigSep_W0]
  simp only [owns_whole_eq]
  show handed m ρ c ⊢ wp frame (wpE (defs₀ (F := F)) 𝒱₀ c none) Set.univ
    (cc0_body xM (Memref.isWhole_whole _) yM (Memref.isWhole_whole _) oM (Memref.isWhole_whole _)
            rM (Memref.isWhole_whole _) cc0_scratch1 cc0_scratch2) (fun _ => returned m ρ c)
  refine (handed_named m ρ c).trans ?_
  iintro ⟨%K, %g, H⟩
  iapply (sound_body m K c g fun _ => returned m ρ c)
  isplitl [H]; · iexact H
  iintro H
  iapply (left_returned m ρ c); iexact H

/-! ## The launch's side conditions -/

/-- The windows' arrays are held whole. -/
theorem share_eq (c : Dev nD) (w : Fin cfg0.W) : (dats m ρ 0 c).share w = fullShare := by unfold Dat.share; split <;> rfl

/-- The argument no window reads, beside the pipeline. -/
def aside (c : Dev nD) : sProp 𝕄 := ((c : Thread nD τ).loc main_arg2) ↦{fullShare} m ((c : Thread nD τ).loc main_arg2)

/-- What the launch gives a device makes its state at the start, with the third argument set aside. -/
theorem start_made (c : Dev nD) :
    iprop(Pipeline.unscopedRestP Pipeline.Prefetch.none cfg0.spec c (fun b => m ((c : Thread nD τ).loc b)) ∗ levAts L lv
        ∗ Pipeline.launchCred (owe 0 0) c ∗ prngReg c (ρ c) ∗ G' m c)
      ⊢ |={Set.univ}=> iprop(start m c ∗ aside m c) := by
  rw [Pipeline.unscopedRestP_none, unscopedRest0_eq]
  iintro ⟨Hrest, Hlev, Hcr, -, HG⟩
  ihave Hdue := (credits (F := F) c) $$ Hcr
  imodintro
  unfold start G' aside
  isplitl [Hlev HG Hdue]
  · isplitl [HG]; · iexact HG
    isplitl [Hdue] <;> iassumption
  · iexact Hrest

/-- The state at the start and the receive buffer make the state before the one point. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iapply (slots_of_whole c); iexact Hr

/-- The state after the one point gives the semaphores, at zero, and the receive buffer back. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems_eq]
  iintro ⟨Hs, Hu, Ho⟩
  isplitl [Hu]; · iexact Hu
  isplitl [Ho]; · iexact Ho
  iapply (whole_of_slots c); iexact Hs

/-- The pipeline may wait on its staging semaphores before and after the body, whatever is owed then. -/
theorem waits (c : Dev nD) : (levAts L lv : sProp 𝕄) ⊢ Pipeline.cellsWaits cfgs (dats m ρ) () 0 c :=
  Pipeline.cellsWaits_intro cfgs (dats m ρ) () 0 c fun w s t => by
    have hq : ((cfg0.spec w).sem s).val < 6 := by fin_cases w <;> fin_cases s <;> decide
    rcases t with ⟨_ | _, ht⟩
    · exact mayWait_low c _ hq 0 0
    · exact mayWait_low c _ hq 3 3

/-- The launch's element splits into the staging library's part and what the devices get. -/
theorem launch_funds : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_exchange m) $$ HX with HG
  imodintro
  isplitl [HP] <;> iassumption

/-- What is read of a device once it is done: its unscoped semaphores at zero, and the third argument unchanged. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)

/-- A device that is done shows its semaphores at zero and the third argument unchanged. -/
theorem seen (c : Dev nD) (s' : Phys nD τ sig (Elt F)) :
    iprop(unscopedSems0 c ∗ aside m c ∗ SI s') ⊢ (|={Set.univ}=> iprop(⌜Seen m c s'.mem⌝ ∗ SI s') : sProp 𝕄) := by
  unfold aside
  iintro ⟨Hu, Ha, HSI⟩
  icombine HSI Ha gives %h
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ h⟩
  · iexact HSI

/-! ## The run -/

/-- What the window `w`'s array holds on device `c` at the end. -/
def finalA (c : Dev nD) (w : Fin cfg0.W) : Buf (Elt F) ((cfg0.win w).arr.view.loc (c : Thread nD τ)) := (dats m ρ 0 c).arrAt w cfg0.N

/-- The end of a run: the windows' arrays as computed, the third argument unchanged, every semaphore at zero. -/
def Ends (r : PUnit × MemSt nD τ sig (Elt F)) : Prop :=
  (∀ c : Dev nD, (∀ w : Fin cfg0.W, r.2.mem ((cfg0.win w).arr.view.loc (c : Thread nD τ)) = finalA m ρ c w)
      ∧ r.2.mem ((c : Thread nD τ).loc main_arg2) = m ((c : Thread nD τ).loc main_arg2))
    ∧ r.2.sem = fun _ => 0

set_option maxRecDepth 8000 in
/-- From any memory with all semaphores at zero, every run of the kernel on the sixteen devices ends, and ends as `Ends` says. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := block_pos0) (harr := arr_whole0) (hstage := stage_whole0) (hshare := share_eq m ρ)
    (hdistinct := winFacts0.arr_inj)
    (O₀ := owe 0 0) (howed₀ := fun _ => rfl) (howedN := owe_done)
    (L := L) (lv := lv) (hL := L_of_ne) (hwaits := waits m ρ)
    (G := G m) (G' := G' m) (u₀ := u₀) (hu₀ := launch_funds m) (hglob := common_step m)
    (hA := fun _ _ => rfl) (hpf := fun _ k => k.elim0)
    (X := start m) (Y := fun c => unscopedSems0 c) (Z := aside m)
    (hX := start_made m ρ) (hin := enter m ρ) (hout := leave m ρ)
    (QY := Seen m) (hY := seen m)
    (hQ := fun _ h hs => ⟨fun c => ⟨(h c).1, (h c).2.2.2⟩, sem_eq_zero hs fun c => (h c).2.2.1⟩)

end Cert.Lnbwd

end
-- ==== Proof.Arrays.lean ====
/-
What the arrays hold when a run ends: the two arguments what they held, the result each device's sum of the four
contributions. A window's one block is its whole array.
-/
module

public import proofs.«01_k».proof.Proof.Launch
public import Idealize.ShloMosaic.Lib.Pipeline.ValueKit

@[expose] public section

noncomputable section

namespace Cert.Lnbwd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is staged of `x` is the argument array. -/
theorem xIn_eq (c : Dev nD) : xIn m c = m ((c : Thread nD τ).loc main_arg0) :=
  Memref.read_access_unit_zero (Elt F) main_arg0 (funext fun a => by revert a; decide) (fun a => by revert a; decide) _

/-- What is staged of `dy` is the argument array. -/
theorem yIn_eq (c : Dev nD) : yIn m c = m ((c : Thread nD τ).loc main_arg1) :=
  Memref.read_access_unit_zero (Elt F) main_arg1 (funext fun a => by revert a; decide) (fun a => by revert a; decide) _

/-- The array of `x` ends as it was launched. -/
theorem final_x (c : Dev nD) : finalA m ρ c (0 : Fin 3) = m ((c : Thread nD τ).loc main_arg0) :=
  (dats m ρ 0 c).arrAt_in (0 : Fin 3) rfl _

/-- The array of `dy` ends as it was launched. -/
theorem final_y (c : Dev nD) : finalA m ρ c (1 : Fin 3) = m ((c : Thread nD τ).loc main_arg1) :=
  (dats m ρ 0 c).arrAt_in (1 : Fin 3) rfl _

/-- The result is written back once, whole. -/
theorem out_whole : win0_2.WholeAt t0_0 := by decide +kernel

/-- The result array ends at the device's sum of the four contributions. -/
theorem final_o (c : Dev nD) : finalA m ρ c (2 : Fin 3) = outAt m c := by
  refine (dats m ρ 0 c).arrAt_eq_of_after_last (2 : Fin 3) (0 : Fin 1) out_whole (outAt m c) fun j => ?_
  rfl

/-- A run ends with each device's result at the sum of the four contributions of its line and its arguments unchanged. -/
theorem run_value : θ_run defs (onTc (τ := τ) (main (F := F))) ⟨m, fun _ => 0, ρ⟩ fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun _ h => ⟨fun c => ⟨((h.1 c).1 (2 : Fin 3)).trans (final_o m ρ c),
      ((h.1 c).1 (0 : Fin 3)).trans (final_x m ρ c), ((h.1 c).1 (1 : Fin 3)).trans (final_y m ρ c), (h.1 c).2⟩, h.2⟩)
    (run_main m ρ)

end Cert.Lnbwd

end
-- ==== Proof.Math.lean ====
/-
The mathematics of one row, on the extended reals: a row's mean, its variance (never negative), the row made to
  mean zero and variance one, and the two sums over rows that the gradients are. Besides: one over a square root is the
  reciprocal square root of a value that is not negative, and a sum over 2048 rows is the sum of its four quarters.
-/
module

public import Idealize.ShloMosaic.Lib.IdealHost
public import Idealize.ShloMosaic.Lib.Pointwise

@[expose] public section

noncomputable section

namespace Cert.Lnbwd

open Idealize.ShloMosaic

/-- The length of a row, as the kernel and the reference both write it. -/
def len : EReal := Ideal.ofBits .f32 0x44000000#32

/-- What is added to the variance before the root is taken. -/
def eps : EReal := Ideal.ofBits .f32 0x3727C5AC#32

/-- The length of a row is the real 512. -/
theorem len_eq : len = ((512 : ℝ) : EReal) := by
  unfold len
  simp [Ideal.ofBits, Ideal.ieee, -EReal.coe_mul]; norm_num

/-- What is added to the variance is a positive number. -/
theorem eps_pos : 0 < eps := by
  unfold eps
  simp [Ideal.ofBits, Ideal.ieee, -EReal.coe_mul]

/-- The mean of a row. -/
def mean (r : Fin 512 → EReal) : EReal := Ideal.div (∑ k, r k) len

/-- The variance of a row. -/
def variance (r : Fin 512 → EReal) : EReal := Ideal.div (∑ k, (r k - mean r) * (r k - mean r)) len

/-- The row with its mean taken off and its spread divided out. -/
def normed (r : Fin 512 → EReal) (k : Fin 512) : EReal := (r k - mean r) * Ideal.rsqrt (variance r + eps)

/-- The gradients from `n` rows `x` and as many rows `y`, at column `k`: row 0 is the sum of `y` times the normalised
    `x`, row 1 the sum of `y`. -/
def grads {n : ℕ} (x y : Fin n → Fin 512 → EReal) (h : Fin 2) (k : Fin 512) : EReal :=
  if h.val = 0 then ∑ i, y i k * normed (x i) k else ∑ i, y i k

/-- An extended real times itself is not negative. -/
theorem square_nonneg (a : EReal) : 0 ≤ a * a := by
  rcases le_total 0 a with h | h
  · exact mul_nonneg h h
  · have h' : 0 ≤ -a := EReal.neg_nonneg.mpr h
    have := mul_nonneg h' h'
    rwa [neg_mul_neg] at this

/-- The variance is not negative, whatever the row holds. -/
theorem variance_nonneg (r : Fin 512 → EReal) : 0 ≤ variance r := by
  have hl : len ≠ 0 := by rw [len_eq]; norm_num
  unfold variance Ideal.div
  rw [if_neg hl]
  refine mul_nonneg (Finset.sum_nonneg fun k _ => square_nonneg _) ?_
  rw [len_eq, ← EReal.coe_inv]
  exact EReal.coe_nonneg.mpr (by norm_num)

/-- One over the square root is the reciprocal square root, at a value that is not negative. -/
theorem one_div_sqrt {v : EReal} (h : 0 ≤ v) : Ideal.div 1 (Ideal.sqrt v) = Ideal.rsqrt v := by
  induction v using EReal.rec with
  | bot => simp at h
  | top => simp [Ideal.div]
  | coe r =>
    have hr : 0 ≤ r := EReal.coe_nonneg.mp h
    rw [Ideal.sqrt_coe, Ideal.rsqrt_coe, if_neg (not_lt.mpr hr), if_neg (not_lt.mpr hr)]
    unfold Ideal.div
    by_cases h0 : r = 0
    · subst h0; simp
    · have hs : Real.sqrt r ≠ 0 := (Real.sqrt_ne_zero hr).mpr h0
      rw [if_neg h0, if_neg (by exact_mod_cast hs), one_mul, EReal.coe_inv]

/-- The factor by which a row is scaled, however it is written. -/
theorem scale_eq (r : Fin 512 → EReal) :
    Ideal.div 1 (Ideal.sqrt (variance r + eps)) = Ideal.rsqrt (variance r + eps) :=
  one_div_sqrt (add_nonneg (variance_nonneg r) eps_pos.le)

/-- Row `k` of quarter `z` among the 2048 rows. -/
def rowOf (z : Fin 4) (k : Fin 512) : Fin 2048 := ⟨z.val * 512 + k.val, by omega⟩

/-- A sum over 2048 rows is the sum over the quarters of the sums over their rows. -/
theorem sum_quarters (f : Fin 2048 → EReal) : ∑ i, f i = ∑ z : Fin 4, ∑ k : Fin 512, f (rowOf z k) := by
  rw [← Fintype.sum_prod_type' (f := fun z k => f (rowOf z k))]
  refine (Fintype.sum_equiv (finProdFinEquiv (m := 4) (n := 512)) _ _ fun p => congrArg f (Fin.ext ?_)).symm
  show p.1.val * 512 + p.2.val = p.2.val + 512 * p.1.val
  omega

/-- So the gradients from all 2048 rows are the sums of the gradients from the quarters. -/
theorem grads_quarters (x y : Fin 2048 → Fin 512 → EReal) (h : Fin 2) (k : Fin 512) :
    grads x y h k = ∑ z : Fin 4, grads (fun i => x (rowOf z i)) (fun i => y (rowOf z i)) h k := by
  unfold grads
  split
  · exact sum_quarters _
  · exact sum_quarters _

end Cert.Lnbwd

end
-- ==== Proof.PartValue.lean ====
/-
What one device's contribution is, on the extended reals: the gradients from the rows of its own block.
-/
module

public import proofs.«01_k».proof.Proof.Rows
public import proofs.«01_k».proof.Proof.Math

@[expose] public section

noncomputable section

namespace Cert.Lnbwd

open Cert.KernelIdeal Cert.KernelIdeal.Gen
open Idealize.ShloMosaic

/-- Row 0 at column `k`: the sum over the block's rows of `y` times the normalised `x`. -/
theorem gammaRow_at (X Y : Vec Ideal S512x512 .bf16) (k : Fin 512) :
    gammaRow (F := Ideal) X Y (ix2 0 k) = ∑ i : Fin 512, Y (ix2 i k) * normed (fun l => X (ix2 i l)) k := by
  unfold gammaRow
  pointwise [k0_pay5, k0_pay4, k0_pay3, k0_pay2]
  rfl

/-- Row 1 at column `k`: the sum of `y` over the block's rows. -/
theorem betaRow_at (Y : Vec Ideal S512x512 .bf16) (k : Fin 512) :
    betaRow (F := Ideal) Y (ix2 0 k) = ∑ i : Fin 512, Y (ix2 i k) := by
  unfold betaRow
  pointwise [k0_pay6, k0_pay3]

/-- The contribution is the gradients from the block's rows. -/
theorem part_at (X Y : Vec Ideal S512x512 .bf16) (h : Fin 2) (k : Fin 512) :
    part (F := Ideal) X Y (ix2 h k) = grads (fun i l => X (ix2 i l)) (fun i l => Y (ix2 i l)) h k := by
  have e : onRow k = ix2 0 k := eq_ix2 _
  unfold part grads
  show (if h.val = 0 then gammaRow X Y (onRow k) else betaRow Y (onRow k)) = _
  rw [e, gammaRow_at, betaRow_at]

end Cert.Lnbwd

end
-- ==== Proof.RefValue.lean ====
/-
What the reference computes: its operations named step by step, and their result on the extended reals, which is the
  gradients from all 2048 rows.
-/
module

public import proofs.«01_k».proof.Proof.Gen.ReferenceIdeal.Run
public import proofs.«01_k».proof.Proof.Math
public import Idealize.ShloMosaic.Lib.StableHlo.Run

@[expose] public section

noncomputable section

namespace Cert.Lnbwd

open Cert.ReferenceIdeal Cert.ReferenceIdeal.Gen
open Idealize.ShloMosaic Idealize.ShloMosaic.TcCoe Idealize.SL.Sem

variable {F : FTy → Type} [FloatOps F]

/-- The number `b` denotes, once for each row. -/
abbrev perRow (b : BitVec 32) : FVec F S2048x1 .f32 :=
  broadcastInDim S2048x1 ![] bcast_S_S2048x1 (constant (F := F) S_ .f32 b)

/-- The sums of the rows. -/
abbrev rowSums (x : FVec F S2048x512 .f32) : FVec F S2048x1 .f32 :=
  broadcastInDim S2048x1 ![0] bcast_S2048_S2048x1_0
    (Host.reduceAdd x (constant S_ .f32 0x00000000#32) reducesTo_S2048x512_S2048_d1 h_S_)

/-- The sums of the columns, as one row. -/
abbrev colSums (x : FVec F S2048x512 .f32) : FVec F S1x512 .f32 :=
  broadcastInDim S1x512 ![1] bcast_S512_S1x512_1
    (Host.reduceAdd x (constant S_ .f32 0x00000000#32) reducesTo_S2048x512_S512_d0 h_S_)

/-- A value of each row, repeated in each of its columns. -/
abbrev repeated (v : FVec F S2048x1 .f32) : FVec F S2048x512 .f32 :=
  broadcastInDim S2048x512 ![0, 1] bcast_S2048x1_S2048x512_0_1 v

/-- The rows with their means taken off. -/
def refDev (x : FVec F S2048x512 .f32) : FVec F S2048x512 .f32 :=
  subf x (repeated (Host.divf (rowSums x) (perRow 0x44000000#32)))

/-- The divisor of the variance: the row's length less zero. -/
def refCount : FVec F S_ .f32 := subf (constant S_ .f32 0x44000000#32) (sitofp .f32 (constantI S_ 32 0#32))

/-- The variances of the rows. -/
def refVariance (x : FVec F S2048x512 .f32) : FVec F S2048x1 .f32 :=
  select (broadcastInDim S2048x1 ![] bcast_S_S2048x1 (cmpf .ogt (refCount (F := F)) (constant S_ .f32 0x00000000#32)))
    (Host.divf (rowSums (mulf (refDev x) (refDev x))) (broadcastInDim S2048x1 ![] bcast_S_S2048x1 (refCount (F := F))))
    (broadcastInDim S2048x1 ![] bcast_S_S2048x1 (id (constant S_ .f32 0x7FC00000#32)))

/-- The factors of the rows: one over the root of the variance and a little more. -/
def refScale (x : FVec F S2048x512 .f32) : FVec F S2048x1 .f32 :=
  Host.divf (perRow 0x3F800000#32) (Host.sqrt (addf (refVariance x) (perRow 0x3727C5AC#32)))

/-- The reference's result. -/
def refOut (x y : FVec F S2048x512 .bf16) : FVec F S2x512 .f32 :=
  concatenate S2x512 0
    [⟨S1x512, colSums (mulf (extf .f32 y bitsLt_bf16_f32)
        (mulf (refDev (extf .f32 x bitsLt_bf16_f32)) (repeated (refScale (extf .f32 x bitsLt_bf16_f32)))))⟩,
      ⟨S1x512, colSums (extf .f32 y bitsLt_bf16_f32)⟩] concatenates_S1x512_S1x512_S2x512_d0

/-- The reference terminates with its result `refOut` of its arguments, the arguments unchanged. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

/-! ## On the extended reals -/

/-- Row `i` of an array of 2048 rows. -/
abbrev rowAt (x : FVec Ideal S2048x512 .f32) (i : Fin 2048) : Fin 512 → EReal := fun l => x (ix2 i l)

/-- A row's sum. -/
theorem rowSums_at (x : FVec Ideal S2048x512 .f32) (i : Fin 2048) :
    rowSums x (ix2 i 0) = ∑ l, rowAt x i l := by
  pointwise [rowSums]

/-- A row with its mean taken off. -/
theorem refDev_at (x : FVec Ideal S2048x512 .f32) (i : Fin 2048) (k : Fin 512) :
    refDev x (ix2 i k) = rowAt x i k - mean (rowAt x i) := by
  pointwise [refDev]
  rfl

/-- The divisor of the variance is the row's length. -/
theorem refCount_at (j : S_.Idx) : refCount (F := Ideal) j = len := by
  show Ideal.ofBits .f32 0x44000000#32 - (((0#32 : BitVec 32).toInt : ℝ) : EReal) = len
  simp [len]

/-- A row's variance: the test of the divisor succeeds. -/
theorem refVariance_at (x : FVec Ideal S2048x512 .f32) (i : Fin 2048) :
    refVariance x (ix2 i 0) = variance (rowAt x i) := by
  have hl : (0 : EReal) < len := by rw [len_eq]; exact_mod_cast (by norm_num : (0 : ℝ) < 512)
  pointwise [refVariance, refCount_at, refDev_at]
  rw [if_pos hl]
  rfl

/-- A row's factor. -/
theorem refScale_at (x : FVec Ideal S2048x512 .f32) (i : Fin 2048) :
    refScale x (ix2 i 0) = Ideal.rsqrt (variance (rowAt x i) + eps) := by
  rw [← scale_eq, ← refVariance_at]
  pointwise [refScale]
  rfl

/-- The result is the gradients from all the rows. -/
theorem refOut_at (x y : FVec Ideal S2048x512 .bf16) (h : Fin 2) (k : Fin 512) :
    refOut (F := Ideal) x y (ix2 h k) = grads (fun i l => x (ix2 i l)) (fun i l => y (ix2 i l)) h k := by
  unfold grads normed
  pointwise [refOut, refDev_at, refScale_at]
  by_cases h0 : h.val = 0
  · rw [dif_pos (by omega), if_pos h0]
    rfl
  · rw [dif_neg (by omega), if_neg h0]

end Cert.Lnbwd

end
-- ==== Proof.Equation.lean ====
/-
The equation: when each device holds its quarter of the rows, the sum of the four contributions of its line is the
reference's result, on every device.
-/
module

public import proofs.«01_k».proof.Proof.State
public import proofs.«01_k».proof.Proof.PartValue
public import proofs.«01_k».proof.Proof.RefValue
public import Idealize.ShloMosaic.Lib.Layout

@[expose] public section

noncomputable section

namespace Cert.Lnbwd

open Cert.KernelIdeal Cert.KernelIdeal.Gen
open Idealize.ShloMosaic Idealize.ShloMosaic.TcCoe

/-- The quarter of the rows device `c` holds: its place on its line. -/
def quarter (c : Dev nD) : Fin 4 := ⟨c.val % 4, Nat.mod_lt _ (by decide)⟩

/-- The device whose contribution lands in slot `j` is `j + 1` places back. -/
theorem quarter_peer (j : Fin 3) (c : Dev nD) : quarter (peer j.rev c) = quarter c - j.succ := by
  revert j c; decide

/-- A device and the three whose contributions it receives hold the four quarters, each once. -/
theorem sum_line (g : Fin 4 → EReal) (c : Dev nD) :
    g (quarter c) + g (quarter (peer (0 : Fin 3).rev c)) + g (quarter (peer (1 : Fin 3).rev c))
      + g (quarter (peer (2 : Fin 3).rev c)) = ∑ z, g z := by
  rw [← Equiv.sum_comp (Equiv.subLeft (quarter c)) g, Fin.sum_univ_four]
  simp only [quarter_peer, Equiv.subLeft_apply, sub_zero]
  rfl

/-- Device `c`'s block of an array of 2048 rows is its quarter of the rows. -/
theorem block_at (v : (⟨2, ![2048, 512]⟩ : Shape).Idx → EReal) (c : Dev nD) (i l : Fin 512) :
    Layout.blockN ⟨2, ![512, 512]⟩ ⟨2, ![2048, 512]⟩ (Layout.meshBlock [2, 2, 4] ![[2], []] c) v (by decide) (ix2 i l)
      = v (ix2 (rowOf (quarter c) i) l) := by
  rw [Layout.blockN_apply]
  refine congrArg v (funext fun a => Fin.ext ?_)
  revert a
  refine Fin.forall_fin_two.mpr ⟨?_, ?_⟩
  · show (c.val / 1 % 4 * 1 + 0) * 512 + i.val = c.val % 4 * 512 + i.val
    omega
  · show 0 * 512 + l.val = l.val
    omega

/-- When every device's two blocks are its quarters of `x` and `y`, every device's sum of the four contributions is the
    reference's result from `x` and `y`. -/
theorem line_eq_reference (X Y : Dev nD → Vec Ideal S512x512 .bf16)
    (x y : FVec Ideal Cert.ReferenceIdeal.S2048x512 .bf16)
    (hx : ∀ c, X c = Layout.blockN ⟨2, ![512, 512]⟩ ⟨2, ![2048, 512]⟩ (Layout.meshBlock [2, 2, 4] ![[2], []] c) x)
    (hy : ∀ c, Y c = Layout.blockN ⟨2, ![512, 512]⟩ ⟨2, ![2048, 512]⟩ (Layout.meshBlock [2, 2, 4] ![[2], []] c) y)
    (c : Dev nD) :
    addf (addf (addf (part (F := Ideal) (X c) (Y c)) (part (F := Ideal) (X (peer (0 : Fin 3).rev c)) (Y (peer (0 : Fin 3).rev c))))
        (part (F := Ideal) (X (peer (1 : Fin 3).rev c)) (Y (peer (1 : Fin 3).rev c))))
        (part (F := Ideal) (X (peer (2 : Fin 3).rev c)) (Y (peer (2 : Fin 3).rev c)))
      = refOut (F := Ideal) x y := by
  have e : ∀ (d : Dev nD) (h : Fin 2) (k : Fin 512), part (F := Ideal) (X d) (Y d) (ix2 h k)
      = grads (fun i l => x (ix2 (rowOf (quarter d) i) l)) (fun i l => y (ix2 (rowOf (quarter d) i) l)) h k := by
    intro d h k
    rw [part_at, hx, hy]
    simp only [block_at]
  funext j
  obtain ⟨h, k, rfl⟩ : ∃ (h : Fin 2) (k : Fin 512), j = ix2 h k := ⟨j 0, j 1, eq_ix2 j⟩
  rw [refOut_at, grads_quarters]
  show part (F := Ideal) (X c) (Y c) (ix2 h k) + part (F := Ideal) (X (peer (0 : Fin 3).rev c)) (Y (peer (0 : Fin 3).rev c)) (ix2 h k)
      + part (F := Ideal) (X (peer (1 : Fin 3).rev c)) (Y (peer (1 : Fin 3).rev c)) (ix2 h k)
      + part (F := Ideal) (X (peer (2 : Fin 3).rev c)) (Y (peer (2 : Fin 3).rev c)) (ix2 h k) = _
  rw [e, e, e, e]
  exact sum_line (fun z => grads (fun i l => x (ix2 (rowOf z i) l)) (fun i l => y (ix2 (rowOf z i) l)) h k) c

end Cert.Lnbwd

end
-- ==== Proof.lean ====
/-
The certificate's claims, put together: the kernel, as written and on the extended reals, and the reference each run to
an end with their arguments unchanged and every semaphore at zero; and on the extended reals every device's result is
the reference's. The kernel's run is Proof/Launch.lean's, its arrays Proof/Arrays.lean's, the equation
Proof/Equation.lean's. The kernel's two texts are one, so its run is proved once, over any float values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Arrays
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- Over any float values the kernel runs to an end, its arguments unchanged and every semaphore at zero. -/
theorem kernel_runs {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c : Thread Cert.KernelIdeal.nD Cert.KernelIdeal.τ).loc Cert.KernelIdeal.main_arg0)
            = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1)
            = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2)
            = m ((c : Thread Cert.KernelIdeal.nD Cert.KernelIdeal.τ).loc Cert.KernelIdeal.main_arg2))
      ∧ r.2.sem = fun _ => 0 :=
  (θ_run Cert.KernelIdeal.defs _ _).mono (fun _ h => ⟨fun c => (h.1 c).2, h.2⟩) (Cert.Lnbwd.run_value m ρ)

/-- The kernel on the extended reals. -/
theorem frame_kernel_ideal : Cert.quiescent_KernelIdeal := fun m ρ _ => kernel_runs (F := Ideal) m ρ

/-- The kernel's two texts name the same bodies; -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ)) (funext fun l => funext fun a => ?_)
  match l, a with
  | 0, (t, s) => rfl

/-- and the same pipeline around them. -/
theorem defs_eq : Cert.Kernel.defs (F := Bits) = Cert.KernelIdeal.defs (F := Bits) :=
  congrArg (Pipeline.defs _) bodies_eq

/-- The kernel on the machine's floats: its text is the same. -/
theorem frame_kernel : Cert.quiescent_Kernel := fun m ρ _ => by
  rw [defs_eq]
  exact kernel_runs (F := Bits) m ρ

/-- The reference runs to an end, its arguments unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.Lnbwd.run_reference (F := Ideal) m ρ)

/-- From arguments that agree, the kernel's result on every device is the reference's. -/
theorem value : Cert.algebraic_KernelIdeal_ReferenceIdeal := by
  intro m ρ m' ρ' _ agree
  refine ⟨Cert.Lnbwd.refOut (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩)
      (Cert.Lnbwd.run_value (F := Ideal) m ρ)
    exact Cert.Lnbwd.line_eq_reference (Cert.Lnbwd.xIn m) (Cert.Lnbwd.yIn m) _ _
      (fun d => (Cert.Lnbwd.xIn_eq m d).trans (agree d).1) (fun d => (Cert.Lnbwd.yIn_eq m d).trans (agree d).2.1) c
  · exact (θ_run Cert.ReferenceIdeal.defs _ _).mono (fun _ h => h 0) (Cert.Lnbwd.run_reference (F := Ideal) m' ρ')

/-- All the claims. -/
theorem claim : Cert.Claim :=
  ⟨Cert.Kernel.Gen.facts, Cert.KernelIdeal.Gen.facts, Cert.ReferenceIdeal.Gen.facts,
    frame_kernel, frame_kernel_ideal, frame_reference, trivial, value⟩

end Cert.Proof

end
